-- ==== Defs.lean ====
def Pre_Kernel [hPre_pi_swaps_Kernel : Cert.Pre_pi_swaps_Kernel.Facts] (m : (ℓ : Loc Cert.Kernel.nD Cert.Kernel.τ Cert.Kernel.sig) → Buf (Elt Bits) ℓ) : Prop :=
  ∀ c : Dev Cert.Kernel.nD,
    (Cert.Pre_pi_swaps_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_keeps_Kernel [hPre_pi_keeps_Kernel : Cert.Pre_pi_keeps_Kernel.Facts] (m : (ℓ : Loc Cert.Kernel.nD Cert.Kernel.τ Cert.Kernel.sig) → Buf (Elt Bits) ℓ) : Prop :=
  ∀ c : Dev Cert.Kernel.nD,
    (Cert.Pre_pi_keeps_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pi_swaps_Kernel : Cert.Pre_pi_swaps_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_swaps_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_keeps_Kernel [hPre_pi_keeps_Kernel : Cert.Pre_pi_keeps_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_keeps_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pi_swaps_ReferenceIdeal [hPre_pi_swaps_ReferenceIdeal : Cert.Pre_pi_swaps_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_swaps_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_keeps_ReferenceIdeal [hPre_pi_keeps_ReferenceIdeal : Cert.Pre_pi_keeps_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_keeps_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_pi_swaps_ReferenceIdeal : Cert.Pre_pi_swaps_ReferenceIdeal.Facts] (m : (ℓ : Loc Cert.Reference.nD Cert.Reference.τ Cert.Reference.sig) → Buf (Elt Bits) ℓ) : Prop :=
  ∀ c : Dev Cert.Reference.nD,
    (Cert.Pre_pi_swaps_ReferenceIdeal.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_pi_keeps_ReferenceIdeal [hPre_pi_keeps_ReferenceIdeal : Cert.Pre_pi_keeps_ReferenceIdeal.Facts] (m : (ℓ : Loc Cert.Reference.nD Cert.Reference.τ Cert.Reference.sig) → Buf (Elt Bits) ℓ) : Prop :=
  ∀ c : Dev Cert.Reference.nD,
    (Cert.Pre_pi_keeps_ReferenceIdeal.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] [hPre_pi_swaps_Kernel : Cert.Pre_pi_swaps_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_keeps_Kernel [hKernel : Cert.Kernel.Facts] [hPre_pi_keeps_Kernel : Cert.Pre_pi_keeps_Kernel.Facts] : Prop :=
  ∀ (m : (ℓ : Loc Cert.Kernel.nD Cert.Kernel.τ Cert.Kernel.sig) → Buf (Elt Bits) ℓ) (g : Dev Cert.Kernel.nD → PrngReg), Pre_Kernel_pi_keeps_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pi_swaps_Kernel : Cert.Pre_pi_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_keeps_Kernel [hKernelIdeal : Cert.KernelIdeal.Facts] [hPre_pi_keeps_Kernel : Cert.Pre_pi_keeps_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_keeps_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_swaps_ReferenceIdeal [hReferenceIdeal : Cert.ReferenceIdeal.Facts] [hPre_pi_swaps_ReferenceIdeal : Cert.Pre_pi_swaps_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_swaps_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_keeps_ReferenceIdeal [hReferenceIdeal : Cert.ReferenceIdeal.Facts] [hPre_pi_keeps_ReferenceIdeal : Cert.Pre_pi_keeps_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_keeps_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_pi_swaps_ReferenceIdeal : Cert.Pre_pi_swaps_ReferenceIdeal.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_pi_keeps_ReferenceIdeal [hReference : Cert.Reference.Facts] [hPre_pi_keeps_ReferenceIdeal : Cert.Pre_pi_keeps_ReferenceIdeal.Facts] : Prop :=
  ∀ (m : (ℓ : Loc Cert.Reference.nD Cert.Reference.τ Cert.Reference.sig) → Buf (Elt Bits) ℓ) (g : Dev Cert.Reference.nD → PrngReg), Pre_Reference_pi_keeps_ReferenceIdeal m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pi_swaps_Kernel : Cert.Pre_pi_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![2, 512, 512]⟩ (Layout.meshBlock [2, 2, 4] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![2, 512, 512]⟩ (Layout.meshBlock [2, 2, 4] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_keeps_Kernel [hKernelIdeal : Cert.KernelIdeal.Facts] [hReferenceIdeal : Cert.ReferenceIdeal.Facts] [hPre_pi_keeps_Kernel : Cert.Pre_pi_keeps_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_keeps_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![2, 512, 512]⟩ (Layout.meshBlock [2, 2, 4] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![2, 512, 512]⟩ (Layout.meshBlock [2, 2, 4] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def bitexact_Kernel_Reference [hKernel : Cert.Kernel.Facts] [hReference : Cert.Reference.Facts] [hPre_pi_swaps_Kernel : Cert.Pre_pi_swaps_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨3, ![1, 512, 512]⟩ ⟨3, ![2, 512, 512]⟩ (Layout.meshBlock [2, 2, 4] ![[0], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 512, 512]⟩ ⟨3, ![2, 512, 512]⟩ (Layout.meshBlock [2, 2, 4] ![[0], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_pi_keeps_Kernel [hKernel : Cert.Kernel.Facts] [hReference : Cert.Reference.Facts] [hPre_pi_keeps_Kernel : Cert.Pre_pi_keeps_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_pi_keeps_Kernel m →
    (∀ c : Dev Cert.Kernel.nD,
      m ((c.tc : Thread Cert.Kernel.nD Cert.Kernel.τ).loc Cert.Kernel.main_arg0) = Layout.blockN ⟨3, ![1, 512, 512]⟩ ⟨3, ![2, 512, 512]⟩ (Layout.meshBlock [2, 2, 4] ![[0], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 512, 512]⟩ ⟨3, ![2, 512, 512]⟩ (Layout.meshBlock [2, 2, 4] ![[0], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts) (hPre_pi_swaps_Kernel : Cert.Pre_pi_swaps_Kernel.Facts) (hPre_pi_keeps_Kernel : Cert.Pre_pi_keeps_Kernel.Facts) (hPre_pi_swaps_ReferenceIdeal : Cert.Pre_pi_swaps_ReferenceIdeal.Facts) (hPre_pi_keeps_ReferenceIdeal : Cert.Pre_pi_keeps_ReferenceIdeal.Facts),
    quiescent_Kernel (hKernel := hKernel) (hPre_pi_swaps_Kernel := hPre_pi_swaps_Kernel)
    ∧ quiescent_Kernel_pre_pi_keeps_Kernel (hKernel := hKernel) (hPre_pi_keeps_Kernel := hPre_pi_keeps_Kernel)
    ∧ quiescent_KernelIdeal (hKernelIdeal := hKernelIdeal) (hPre_pi_swaps_Kernel := hPre_pi_swaps_Kernel)
    ∧ quiescent_KernelIdeal_pre_pi_keeps_Kernel (hKernelIdeal := hKernelIdeal) (hPre_pi_keeps_Kernel := hPre_pi_keeps_Kernel)
    ∧ quiescent_ReferenceIdeal (hReferenceIdeal := hReferenceIdeal)
    ∧ quiescent_ReferenceIdeal_pre_pi_swaps_ReferenceIdeal (hReferenceIdeal := hReferenceIdeal) (hPre_pi_swaps_ReferenceIdeal := hPre_pi_swaps_ReferenceIdeal)
    ∧ quiescent_ReferenceIdeal_pre_pi_keeps_ReferenceIdeal (hReferenceIdeal := hReferenceIdeal) (hPre_pi_keeps_ReferenceIdeal := hPre_pi_keeps_ReferenceIdeal)
    ∧ quiescent_Reference (hReference := hReference) (hPre_pi_swaps_ReferenceIdeal := hPre_pi_swaps_ReferenceIdeal)
    ∧ quiescent_Reference_pre_pi_keeps_ReferenceIdeal (hReference := hReference) (hPre_pi_keeps_ReferenceIdeal := hPre_pi_keeps_ReferenceIdeal)
    ∧ preserves_Kernel_KernelIdeal
    ∧ algebraic_KernelIdeal_ReferenceIdeal (hKernelIdeal := hKernelIdeal) (hReferenceIdeal := hReferenceIdeal) (hPre_pi_swaps_Kernel := hPre_pi_swaps_Kernel)
    ∧ algebraic_KernelIdeal_ReferenceIdeal_pre_pi_keeps_Kernel (hKernelIdeal := hKernelIdeal) (hReferenceIdeal := hReferenceIdeal) (hPre_pi_keeps_Kernel := hPre_pi_keeps_Kernel)
    ∧ bitexact_Kernel_Reference (hKernel := hKernel) (hReference := hReference) (hPre_pi_swaps_Kernel := hPre_pi_swaps_Kernel)
    ∧ bitexact_Kernel_Reference_pre_pi_keeps_Kernel (hKernel := hKernel) (hReference := hReference) (hPre_pi_keeps_Kernel := hPre_pi_keeps_Kernel)
-- ==== Pre_pi_keeps_Kernel.lean ====
abbrev S1x512x512 : Shape := ⟨3, ![1, 512, 512]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x512x512 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_pi_keeps_ReferenceIdeal.lean ====
abbrev S2x512x512 : Shape := ⟨3, ![2, 512, 512]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x512x512 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_pi_swaps_Kernel.lean ====
abbrev S1x512x512 : Shape := ⟨3, ![1, 512, 512]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x512x512 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Pre_pi_swaps_ReferenceIdeal.lean ====
abbrev S2x512x512 : Shape := ⟨3, ![2, 512, 512]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x512x512 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Kernel.lean ====
abbrev S1x512x512 : Shape := ⟨3, ![1, 512, 512]⟩
abbrev S2 : Shape := ⟨1, ![2]⟩
abbrev S8 : Shape := ⟨1, ![8]⟩
abbrev S1 : Shape := ⟨1, ![1]⟩
abbrev S_ : Shape := ⟨0, ![]⟩
abbrev S1x32x512 : Shape := ⟨3, ![1, 32, 512]⟩
abbrev S32x512 : Shape := ⟨2, ![32, 512]⟩

abbrev nBuf : Space → Nat
  | .hbm => 3
  | .vmem => 0
  | .smem => 1
  | _ => 0

abbrev bufTy : (tb : Table) → Fin (tcTables nBuf tb) → BufTy
  | .hbm, ⟨0, _⟩ => ⟨S1x512x512, .f32⟩
  | .hbm, ⟨1, _⟩ => ⟨S2, .i32⟩
  | .hbm, ⟨2, _⟩ => ⟨S1x512x512, .f32⟩
  | .local _ .smem, ⟨0, _⟩ => ⟨S2, .i32⟩
  | _, _ => ⟨S1x512x512, .f32⟩

abbrev bufScoped : (cs : CoreSpace) → Fin (nBuf (.core cs)) → Bool
  | .smem, ⟨0, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.smem, 0, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_off1 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : Index := Scalar.indexCast v2
  ![v9.toNat]
def k0_dev1 (d0 : Dev nD) (v10 : BitVec 32) : Nat :=
  let c0_i32 : BitVec 32 := 0#32
  let c8_i32_5 : BitVec 32 := 8#32
  let v15 : BitVec 32 := Scalar.muli v10 c8_i32_5
  let v16 : BitVec 32 := Scalar.addi c0_i32 v15
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_6 : BitVec 32 := 4#32
  let v17 : BitVec 32 := Scalar.muli v5 c4_i32_6
  let v18 : BitVec 32 := Scalar.addi v16 v17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.muli v8 c1_i32_7
  let v20 : BitVec 32 := Scalar.addi v18 v19
  v20.toNat

def k0_dev2 (d0 : Dev nD) : Nat :=
  let c0_i32_10 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_9 : BitVec 32 := 8#32
  let v21 : BitVec 32 := Scalar.muli v2 c8_i32_9
  let v22 : BitVec 32 := Scalar.addi c0_i32_10 v21
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_2 v5
  let c4_i32_11 : BitVec 32 := 4#32
  let v23 : BitVec 32 := Scalar.muli v11 c4_i32_11
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v25 : BitVec 32 := Scalar.muli v8 c1_i32_12
  let v26 : BitVec 32 := Scalar.addi v24 v25
  v26.toNat
def k0_off2 (d0 : Dev nD) (c0_i32_14 : BitVec 32) : Fin 3 → Nat :=
  let c0_i32_16 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32 : BitVec 32 := 256#32
  let v12 : BitVec 32 := Scalar.muli v5 c256_i32
  let v27 : BitVec 32 := Scalar.addi v12 c0_i32_14
  let c0_i32_23 : BitVec 32 := 0#32
  ![0, v27.toNat, 0]
def k0_dev3 (d0 : Dev nD) (v10 : BitVec 32) : Nat :=
  let c0_i32_20 : BitVec 32 := 0#32
  let c8_i32_19 : BitVec 32 := 8#32
  let v28 : BitVec 32 := Scalar.muli v10 c8_i32_19
  let v29 : BitVec 32 := Scalar.addi c0_i32_20 v28
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_21 : BitVec 32 := 4#32
  let v30 : BitVec 32 := Scalar.muli v5 c4_i32_21
  let v31 : BitVec 32 := Scalar.addi v29 v30
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v32 : BitVec 32 := Scalar.muli v8 c1_i32_22
  let v33 : BitVec 32 := Scalar.addi v31 v32
  v33.toNat
def k0_dev4 (d0 : Dev nD) (v10 : BitVec 32) : Nat :=
  let c0_i32_30 : BitVec 32 := 0#32
  let c8_i32_29 : BitVec 32 := 8#32
  let v43 : BitVec 32 := Scalar.muli v10 c8_i32_29
  let v44 : BitVec 32 := Scalar.addi c0_i32_30 v43
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_31 : BitVec 32 := 4#32
  let v45 : BitVec 32 := Scalar.muli v5 c4_i32_31
  let v46 : BitVec 32 := Scalar.addi v44 v45
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_32 : BitVec 32 := 1#32
  let v47 : BitVec 32 := Scalar.muli v8 c1_i32_32
  let v48 : BitVec 32 := Scalar.addi v46 v47
  v48.toNat
def k0_dev5 (d0 : Dev nD) (v10 : BitVec 32) : Nat :=
  let c0_i32_40 : BitVec 32 := 0#32
  let c8_i32_39 : BitVec 32 := 8#32
  let v58 : BitVec 32 := Scalar.muli v10 c8_i32_39
  let v59 : BitVec 32 := Scalar.addi c0_i32_40 v58
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_41 : BitVec 32 := 4#32
  let v60 : BitVec 32 := Scalar.muli v5 c4_i32_41
  let v61 : BitVec 32 := Scalar.addi v59 v60
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_42 : BitVec 32 := 1#32
  let v62 : BitVec 32 := Scalar.muli v8 c1_i32_42
  let v63 : BitVec 32 := Scalar.addi v61 v62
  v63.toNat
def k0_dev6 (d0 : Dev nD) (v10 : BitVec 32) : Nat :=
  let c0_i32_49 : BitVec 32 := 0#32
  let c8_i32_48 : BitVec 32 := 8#32
  let v73 : BitVec 32 := Scalar.muli v10 c8_i32_48
  let v74 : BitVec 32 := Scalar.addi c0_i32_49 v73
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_50 : BitVec 32 := 4#32
  let v75 : BitVec 32 := Scalar.muli v5 c4_i32_50
  let v76 : BitVec 32 := Scalar.addi v74 v75
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_51 : BitVec 32 := 1#32
  let v77 : BitVec 32 := Scalar.muli v8 c1_i32_51
  let v78 : BitVec 32 := Scalar.addi v76 v77
  v78.toNat
def k0_dev7 (d0 : Dev nD) (v10 : BitVec 32) : Nat :=
  let c0_i32_59 : BitVec 32 := 0#32
  let c8_i32_58 : BitVec 32 := 8#32
  let v88 : BitVec 32 := Scalar.muli v10 c8_i32_58
  let v89 : BitVec 32 := Scalar.addi c0_i32_59 v88
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_60 : BitVec 32 := 4#32
  let v90 : BitVec 32 := Scalar.muli v5 c4_i32_60
  let v91 : BitVec 32 := Scalar.addi v89 v90
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_61 : BitVec 32 := 1#32
  let v92 : BitVec 32 := Scalar.muli v8 c1_i32_61
  let v93 : BitVec 32 := Scalar.addi v91 v92
  v93.toNat
def k0_dev8 (d0 : Dev nD) (v10 : BitVec 32) : Nat :=
  let c0_i32_68 : BitVec 32 := 0#32
  let c8_i32_67 : BitVec 32 := 8#32
  let v103 : BitVec 32 := Scalar.muli v10 c8_i32_67
  let v104 : BitVec 32 := Scalar.addi c0_i32_68 v103
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_69 : BitVec 32 := 4#32
  let v105 : BitVec 32 := Scalar.muli v5 c4_i32_69
  let v106 : BitVec 32 := Scalar.addi v104 v105
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_70 : BitVec 32 := 1#32
  let v107 : BitVec 32 := Scalar.muli v8 c1_i32_70
  let v108 : BitVec 32 := Scalar.addi v106 v107
  v108.toNat
def k0_dev9 (d0 : Dev nD) (v10 : BitVec 32) : Nat :=
  let c0_i32_77 : BitVec 32 := 0#32
  let c8_i32_76 : BitVec 32 := 8#32
  let v118 : BitVec 32 := Scalar.muli v10 c8_i32_76
  let v119 : BitVec 32 := Scalar.addi c0_i32_77 v118
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_78 : BitVec 32 := 4#32
  let v120 : BitVec 32 := Scalar.muli v5 c4_i32_78
  let v121 : BitVec 32 := Scalar.addi v119 v120
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_79 : BitVec 32 := 1#32
  let v122 : BitVec 32 := Scalar.muli v8 c1_i32_79
  let v123 : BitVec 32 := Scalar.addi v121 v122
  v123.toNat
def k0_dev10 (d0 : Dev nD) (v10 : BitVec 32) : Nat :=
  let c0_i32_86 : BitVec 32 := 0#32
  let c8_i32_85 : BitVec 32 := 8#32
  let v133 : BitVec 32 := Scalar.muli v10 c8_i32_85
  let v134 : BitVec 32 := Scalar.addi c0_i32_86 v133
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_87 : BitVec 32 := 4#32
  let v135 : BitVec 32 := Scalar.muli v5 c4_i32_87
  let v136 : BitVec 32 := Scalar.addi v134 v135
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_88 : BitVec 32 := 1#32
  let v137 : BitVec 32 := Scalar.muli v8 c1_i32_88
  let v138 : BitVec 32 := Scalar.addi v136 v137
  v138.toNat

def k0_chk1 (d0 : Dev nD) (v10 : BitVec 32) : Prop :=
  ((k0_dev1 d0 v10) < nD) ∧
  ((k0_dev3 d0 v10) < nD) ∧
  ((k0_dev4 d0 v10) < nD) ∧
  ((k0_dev5 d0 v10) < nD) ∧
  ((k0_dev6 d0 v10) < nD) ∧
  ((k0_dev7 d0 v10) < nD) ∧
  ((k0_dev8 d0 v10) < nD) ∧
  ((k0_dev9 d0 v10) < nD) ∧
  ((k0_dev10 d0 v10) < nD)
theorem k0_dev1_lt : ∀ (d0 : Dev nD) (v10 : BitVec 32) (k0_hw1 : k0_chk1 d0 v10), (k0_dev1 d0 v10) < nD := fun d0 v10 k0_hw1 => k0_hw1.1
theorem k0_dev3_lt : ∀ (d0 : Dev nD) (v10 : BitVec 32) (k0_hw1 : k0_chk1 d0 v10), (k0_dev3 d0 v10) < nD := fun d0 v10 k0_hw1 => k0_hw1.2.1
theorem k0_dev4_lt : ∀ (d0 : Dev nD) (v10 : BitVec 32) (k0_hw1 : k0_chk1 d0 v10), (k0_dev4 d0 v10) < nD := fun d0 v10 k0_hw1 => k0_hw1.2.2.1
theorem k0_dev5_lt : ∀ (d0 : Dev nD) (v10 : BitVec 32) (k0_hw1 : k0_chk1 d0 v10), (k0_dev5 d0 v10) < nD := fun d0 v10 k0_hw1 => k0_hw1.2.2.2.1
theorem k0_dev6_lt : ∀ (d0 : Dev nD) (v10 : BitVec 32) (k0_hw1 : k0_chk1 d0 v10), (k0_dev6 d0 v10) < nD := fun d0 v10 k0_hw1 => k0_hw1.2.2.2.2.1
theorem k0_dev7_lt : ∀ (d0 : Dev nD) (v10 : BitVec 32) (k0_hw1 : k0_chk1 d0 v10), (k0_dev7 d0 v10) < nD := fun d0 v10 k0_hw1 => k0_hw1.2.2.2.2.2.1
theorem k0_dev8_lt : ∀ (d0 : Dev nD) (v10 : BitVec 32) (k0_hw1 : k0_chk1 d0 v10), (k0_dev8 d0 v10) < nD := fun d0 v10 k0_hw1 => k0_hw1.2.2.2.2.2.2.1
theorem k0_dev9_lt : ∀ (d0 : Dev nD) (v10 : BitVec 32) (k0_hw1 : k0_chk1 d0 v10), (k0_dev9 d0 v10) < nD := fun d0 v10 k0_hw1 => k0_hw1.2.2.2.2.2.2.2.1
theorem k0_dev10_lt : ∀ (d0 : Dev nD) (v10 : BitVec 32) (k0_hw1 : k0_chk1 d0 v10), (k0_dev10 d0 v10) < nD := fun d0 v10 k0_hw1 => k0_hw1.2.2.2.2.2.2.2.2

def k0_dev11 (d0 : Dev nD) : Nat :=
  let c0_i32_107 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_106 : BitVec 32 := 8#32
  let v160 : BitVec 32 := Scalar.muli v2 c8_i32_106
  let v161 : BitVec 32 := Scalar.addi c0_i32_107 v160
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_2 v5
  let c4_i32_108 : BitVec 32 := 4#32
  let v162 : BitVec 32 := Scalar.muli v11 c4_i32_108
  let v163 : BitVec 32 := Scalar.addi v161 v162
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_109 : BitVec 32 := 1#32
  let v164 : BitVec 32 := Scalar.muli v8 c1_i32_109
  let v165 : BitVec 32 := Scalar.addi v163 v164
  v165.toNat
def k0_dev12 (d0 : Dev nD) : Nat :=
  let c0_i32_128 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_127 : BitVec 32 := 8#32
  let v187 : BitVec 32 := Scalar.muli v2 c8_i32_127
  let v188 : BitVec 32 := Scalar.addi c0_i32_128 v187
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_2 v5
  let c4_i32_129 : BitVec 32 := 4#32
  let v189 : BitVec 32 := Scalar.muli v11 c4_i32_129
  let v190 : BitVec 32 := Scalar.addi v188 v189
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_130 : BitVec 32 := 1#32
  let v191 : BitVec 32 := Scalar.muli v8 c1_i32_130
  let v192 : BitVec 32 := Scalar.addi v190 v191
  v192.toNat
def k0_dev13 (d0 : Dev nD) : Nat :=
  let c0_i32_149 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_148 : BitVec 32 := 8#32
  let v214 : BitVec 32 := Scalar.muli v2 c8_i32_148
  let v215 : BitVec 32 := Scalar.addi c0_i32_149 v214
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_2 v5
  let c4_i32_150 : BitVec 32 := 4#32
  let v216 : BitVec 32 := Scalar.muli v11 c4_i32_150
  let v217 : BitVec 32 := Scalar.addi v215 v216
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_151 : BitVec 32 := 1#32
  let v218 : BitVec 32 := Scalar.muli v8 c1_i32_151
  let v219 : BitVec 32 := Scalar.addi v217 v218
  v219.toNat
def k0_dev14 (d0 : Dev nD) : Nat :=
  let c0_i32_170 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_169 : BitVec 32 := 8#32
  let v241 : BitVec 32 := Scalar.muli v2 c8_i32_169
  let v242 : BitVec 32 := Scalar.addi c0_i32_170 v241
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_2 v5
  let c4_i32_171 : BitVec 32 := 4#32
  let v243 : BitVec 32 := Scalar.muli v11 c4_i32_171
  let v244 : BitVec 32 := Scalar.addi v242 v243
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_172 : BitVec 32 := 1#32
  let v245 : BitVec 32 := Scalar.muli v8 c1_i32_172
  let v246 : BitVec 32 := Scalar.addi v244 v245
  v246.toNat
def k0_dev15 (d0 : Dev nD) : Nat :=
  let c0_i32_191 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_190 : BitVec 32 := 8#32
  let v268 : BitVec 32 := Scalar.muli v2 c8_i32_190
  let v269 : BitVec 32 := Scalar.addi c0_i32_191 v268
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_2 v5
  let c4_i32_192 : BitVec 32 := 4#32
  let v270 : BitVec 32 := Scalar.muli v11 c4_i32_192
  let v271 : BitVec 32 := Scalar.addi v269 v270
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_193 : BitVec 32 := 1#32
  let v272 : BitVec 32 := Scalar.muli v8 c1_i32_193
  let v273 : BitVec 32 := Scalar.addi v271 v272
  v273.toNat
def k0_dev16 (d0 : Dev nD) : Nat :=
  let c0_i32_212 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_211 : BitVec 32 := 8#32
  let v295 : BitVec 32 := Scalar.muli v2 c8_i32_211
  let v296 : BitVec 32 := Scalar.addi c0_i32_212 v295
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_2 v5
  let c4_i32_213 : BitVec 32 := 4#32
  let v297 : BitVec 32 := Scalar.muli v11 c4_i32_213
  let v298 : BitVec 32 := Scalar.addi v296 v297
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_214 : BitVec 32 := 1#32
  let v299 : BitVec 32 := Scalar.muli v8 c1_i32_214
  let v300 : BitVec 32 := Scalar.addi v298 v299
  v300.toNat
def k0_dev17 (d0 : Dev nD) : Nat :=
  let c0_i32_233 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_232 : BitVec 32 := 8#32
  let v322 : BitVec 32 := Scalar.muli v2 c8_i32_232
  let v323 : BitVec 32 := Scalar.addi c0_i32_233 v322
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_2 v5
  let c4_i32_234 : BitVec 32 := 4#32
  let v324 : BitVec 32 := Scalar.muli v11 c4_i32_234
  let v325 : BitVec 32 := Scalar.addi v323 v324
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_235 : BitVec 32 := 1#32
  let v326 : BitVec 32 := Scalar.muli v8 c1_i32_235
  let v327 : BitVec 32 := Scalar.addi v325 v326
  v327.toNat
def k0_dev18 (d0 : Dev nD) : Nat :=
  let c0_i32_254 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_253 : BitVec 32 := 8#32
  let v349 : BitVec 32 := Scalar.muli v2 c8_i32_253
  let v350 : BitVec 32 := Scalar.addi c0_i32_254 v349
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_2 v5
  let c4_i32_255 : BitVec 32 := 4#32
  let v351 : BitVec 32 := Scalar.muli v11 c4_i32_255
  let v352 : BitVec 32 := Scalar.addi v350 v351
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_256 : BitVec 32 := 1#32
  let v353 : BitVec 32 := Scalar.muli v8 c1_i32_256
  let v354 : BitVec 32 := Scalar.addi v352 v353
  v354.toNat
def k0_off3 (d0 : Dev nD) (c0_i32_259 : BitVec 32) : Fin 3 → Nat :=
  let c0_i32_261 : BitVec 32 := 0#32
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_2 v5
  let c256_i32_3 : BitVec 32 := 256#32
  let v13 : BitVec 32 := Scalar.muli v11 c256_i32_3
  let v363 : BitVec 32 := Scalar.addi v13 c0_i32_259
  let c0_i32_268 : BitVec 32 := 0#32
  ![0, v363.toNat, 0]
abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== Reference.lean ====
abbrev S2x512x512 : Shape := ⟨3, ![2, 512, 512]⟩
abbrev S2 : Shape := ⟨1, ![2]⟩
abbrev S_ : Shape := ⟨0, ![]⟩
abbrev S2x1 : Shape := ⟨2, ![2, 1]⟩

abbrev nBuf : Space → Nat
  | .hbm => 14
  | .vmem => 0
  | .smem => 0
  | _ => 0

abbrev bufTy : (tb : Table) → Fin (tcTables nBuf tb) → BufTy
  | .hbm, ⟨0, _⟩ => ⟨S2x512x512, .f32⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x512x512, .f32⟩
  | _, _ => ⟨S2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Table.lean ====
/-
The two tables a permutation of two entries can be, and the two preconditions read as saying which one the table is.
-/
module

public import proofs.«01_k».proof.Proof.Gen.Pre_pi_swaps_Kernel
public import proofs.«01_k».proof.Proof.Gen.Pre_pi_keeps_Kernel

@[expose] public section

noncomputable section

namespace Cert.Tables

open Idealize.ShloMosaic

variable {F : FTy → Type} [FloatOps F]

/-- The shape of a table: two entries. -/
abbrev two : Shape := ⟨1, ![2]⟩

/-- The table that swaps the two rows (`sw`), or the one that keeps them. -/
def table (sw : Bool) : IVec two 32 := fun i => BitVec.ofNat 32 (if sw then 1 - (i 0).val else (i 0).val)

/-- The index of entry `n`. -/
def entry (n : Fin 2) : two.Idx := fun a => ⟨n.val, by fin_cases a; exact n.isLt⟩

/-- The index of a one-entry array. -/
def only : (⟨1, ![1]⟩ : Shape).Idx := fun a => ⟨0, by fin_cases a; exact Nat.one_pos⟩

/-- A one-entry array made a scalar holds that entry. -/
theorem scalar (v : IVec ⟨1, ![1]⟩ 32) (h : (⟨1, ![1]⟩ : Shape).ShapeCasts ⟨0, ![]⟩) (j : (⟨0, ![]⟩ : Shape).Idx) :
    shapeCast ⟨0, ![]⟩ v h j = v only :=
  congrArg v (funext fun a => by fin_cases a; exact Subsingleton.elim (α := Fin 1) _ _)

/-- A table is known by its two entries. -/
theorem table_of (sw : Bool) (p : IVec two 32) (h : ∀ n : Fin 2, p (entry n) = table sw (entry n)) : p = table sw := by
  funext i
  have hi : i = entry (i 0) := funext fun a => by fin_cases a; rfl
  rw [hi]; exact h (i 0)

/-- Two comparisons for equality that both hold give the two equations. -/
theorem both {a b u v : BitVec 32} (h : IntOp.andi (IntOp.cmpi .eq a b) (IntOp.cmpi .eq u v) = 1#1) : a = b ∧ u = v := by
  have key : ∀ p q : Bool, IntOp.andi (BitVec.ofBool p) (BitVec.ofBool q) = 1#1 → p = true ∧ q = true := by decide
  exact ⟨eq_of_beq (key _ _ h).1, eq_of_beq (key _ _ h).2⟩

/-- The precondition that the table swaps says it is `table true`; -/
theorem of_swaps (x : FVec F Cert.Pre_pi_swaps_Kernel.S1x512x512 .f32) (p : IVec two 32)
    (h : Cert.Pre_pi_swaps_Kernel.fn (F := F) x p = fun _ => 1#1) : p = table true := by
  have h0 : shapeCast ⟨0, ![]⟩ ((extractStridedSlice Cert.Pre_pi_swaps_Kernel.S1 ![0] · Cert.Pre_pi_swaps_Kernel.Facts.slices_S2_S1_0) p) Cert.Pre_pi_swaps_Kernel.Facts.shapeCasts_S1_S_ (fun a => a.elim0) = p (entry 0) :=
    (scalar _ _ _).trans (congrArg p (funext fun a => by fin_cases a; rfl))
  have h1 : shapeCast ⟨0, ![]⟩ ((extractStridedSlice Cert.Pre_pi_swaps_Kernel.S1 ![1] · Cert.Pre_pi_swaps_Kernel.Facts.slices_S2_S1_1) p) Cert.Pre_pi_swaps_Kernel.Facts.shapeCasts_S1_S_ (fun a => a.elim0) = p (entry 1) :=
    (scalar _ _ _).trans (congrArg p (funext fun a => by fin_cases a; rfl))
  have hb : p (entry 0) = 1#32 ∧ p (entry 1) = 0#32 := by
    refine both ?_
    rw [← h0, ← h1]
    exact congrFun h (fun a => a.elim0)
  exact table_of true p fun n => by
    match n with
    | ⟨0, _⟩ => exact hb.1
    | ⟨1, _⟩ => exact hb.2

/-- the precondition that the table keeps says it is `table false`. -/
theorem of_keeps (x : FVec F Cert.Pre_pi_keeps_Kernel.S1x512x512 .f32) (p : IVec two 32)
    (h : Cert.Pre_pi_keeps_Kernel.fn (F := F) x p = fun _ => 1#1) : p = table false := by
  have h0 : shapeCast ⟨0, ![]⟩ ((extractStridedSlice Cert.Pre_pi_keeps_Kernel.S1 ![0] · Cert.Pre_pi_keeps_Kernel.Facts.slices_S2_S1_0) p) Cert.Pre_pi_keeps_Kernel.Facts.shapeCasts_S1_S_ (fun a => a.elim0) = p (entry 0) :=
    (scalar _ _ _).trans (congrArg p (funext fun a => by fin_cases a; rfl))
  have h1 : shapeCast ⟨0, ![]⟩ ((extractStridedSlice Cert.Pre_pi_keeps_Kernel.S1 ![1] · Cert.Pre_pi_keeps_Kernel.Facts.slices_S2_S1_1) p) Cert.Pre_pi_keeps_Kernel.Facts.shapeCasts_S1_S_ (fun a => a.elim0) = p (entry 1) :=
    (scalar _ _ _).trans (congrArg p (funext fun a => by fin_cases a; rfl))
  have hb : p (entry 0) = 0#32 ∧ p (entry 1) = 1#32 := by
    refine both ?_
    rw [← h0, ← h1]
    exact congrFun h (fun a => a.elim0)
  exact table_of false p fun n => by
    match n with
    | ⟨0, _⟩ => exact hb.1
    | ⟨1, _⟩ => exact hb.2

end Cert.Tables

end
-- ==== Proof.Kernel.Value.lean ====
/-
The kernel's result is the reference's.

When every device's table is `table sw` and device `c` holds its block of an array, the table is what the run asks for, and
the result the run leaves on device `c` is its block of the reference's result.
-/
module

public import proofs.«01_k».proof.Proof.Kernel.Run
public import proofs.«01_k».proof.Proof.Reference.Rows
public import Idealize.ShloMosaic.Lib.Layout

@[expose] public section

noncomputable section

namespace Cert.KernelProof

open Cert.Kernel Cert.Kernel.Gen
open Idealize.ShloMosaic
open Idealize.ShloMosaic.TcCoe
open Idealize.SL.Sem
open Cert.Tables

variable {F : FTy → Type} [FloatOps F]

variable (sw : Bool) (m : (ℓ : Loc nD τ sig) → Buf (Elt F) ℓ)

/-- The tables are as the run asks. -/
theorem tabOK_of (h : ∀ c : Dev nD, (m ((c : Thread nD τ).loc main_arg1) : IVec two 32) = table sw) : TabOK sw m :=
  fun c => by rw [h c]; rfl

/-- Device `c`'s block of a whole array: the part with its own first coordinate. -/
abbrev part (c : Dev nD) (X : FVec F ⟨3, ![2, 512, 512]⟩ .f32) : FVec F S1x512x512 .f32 :=
  Layout.blockN ⟨3, ![1, 512, 512]⟩ ⟨3, ![2, 512, 512]⟩ (Layout.meshBlock [2, 2, 4] ![[0], [], []] c) X

/-- The first coordinate of the devices the result comes from: the table's entry at device `c`'s. -/
theorem from_first : ∀ (sw : Bool) (c d : Dev nD), (d = px sw c ∨ d = px sw (py c)) →
    Layout.meshLin [2, 2, 4] d.val [0] = if sw then 1 - Layout.meshLin [2, 2, 4] c.val [0] else Layout.meshLin [2, 2, 4] c.val [0] := by
  decide +kernel

/-- The block of a device the result comes from is device `c`'s block of the reference's result. -/
theorem part_from (c d : Dev nD) (hd : d = px sw c ∨ d = px sw (py c)) (X : FVec F ⟨3, ![2, 512, 512]⟩ .f32) (i : S1x512x512.Idx) :
    part d X i = part c (Cert.ReferenceProof.rowsOf X (table sw)) i := by
  unfold part
  rw [Layout.blockN_apply, Layout.blockN_apply, Cert.ReferenceProof.rowsOf_table]
  refine congrArg X (funext fun a => Fin.ext ?_)
  have hf := from_first sw c d hd
  have hi : (i 0).val < 1 := (i 0).isLt
  match a with
  | ⟨0, _⟩ =>
    show Layout.meshLin [2, 2, 4] d.val [0] * 1 + (i 0).val = _
    rw [hf]
    cases sw with
    | true =>
      show (1 - Layout.meshLin [2, 2, 4] c.val [0]) * 1 + (i 0).val
        = 1 - (Layout.meshLin [2, 2, 4] c.val [0] * 1 + (i 0).val)
      omega
    | false => rfl
  | ⟨1, _⟩ => rfl
  | ⟨2, _⟩ => rfl

/-- The result on device `c` is its block of the reference's result. -/
theorem outV_eq (X : FVec F ⟨3, ![2, 512, 512]⟩ .f32) (h : ∀ c : Dev nD, m ((c : Thread nD τ).loc main_arg0) = part c X) (c : Dev nD) :
    outV sw m c = part c (Cert.ReferenceProof.rowsOf X (table sw)) := by
  funext i
  show (if (i 1).val / 256 = (c.val / 4) % 2 then src m (px sw c) i else src m (px sw (py c)) i) = _
  unfold src
  rw [h, h]
  split
  · exact part_from sw c _ (.inl rfl) X i
  · exact part_from sw c _ (.inr rfl) X i

end Cert.KernelProof

end
-- ==== Proof.Kernel.Results.lean ====
/-
The two statements about the kernel, for any float values, when every device's table is `table sw`: it runs and leaves its
arguments alone (`frame`), and its result is the reference's (`value`).
-/
module

public import proofs.«01_k».proof.Proof.Kernel.Value

@[expose] public section

noncomputable section

namespace Cert.KernelProof

open Cert.Kernel Cert.Kernel.Gen
open Idealize.ShloMosaic
open Idealize.ShloMosaic.TcCoe
open Idealize.SL.Sem
open Cert.Tables

variable {F : FTy → Type} [FloatOps F]

variable (sw : Bool) (m : (ℓ : Loc nD τ sig) → Buf (Elt F) ℓ) (ρ : Dev nD → PrngReg)

/-- Every execution ends with the arguments as they were and every counter at zero. -/
theorem frame (h : ∀ c : Dev nD, (m ((c : Thread nD τ).loc main_arg1) : IVec two 32) = table sw) :
    θ_run defs (onTc (τ := τ) (main (F := F))) ⟨m, fun _ => 0, ρ⟩ (fun r => (∀ c : Dev nD,
        r.2.mem ((c : Thread nD τ).loc main_arg0) = m ((c : Thread nD τ).loc main_arg0)
        ∧ r.2.mem ((c : Thread nD τ).loc main_arg1) = m ((c : Thread nD τ).loc main_arg1))
      ∧ r.2.sem = fun _ => 0) :=
  (θ_run defs _ _).mono (fun _ hr => ⟨fun c => (hr.1 c).2, hr.2⟩) (run sw m ρ (tabOK_of sw m h))

/-- From memories where device `c` holds its part of the reference's first argument, and the reference's second argument:
    there is one array that the reference ends with and of which every device ends with its part. -/
theorem value (m' : (ℓ : Loc Cert.Reference.nD Cert.Reference.τ Cert.Reference.sig) → Buf (Elt F) ℓ) (ρ' : Dev Cert.Reference.nD → PrngReg)
    (h : ∀ c : Dev nD, (m ((c : Thread nD τ).loc main_arg1) : IVec two 32) = table sw)
    (agree : ∀ c : Dev nD, m ((c : Thread nD τ).loc main_arg0) = part c (m' (((0 : Dev Cert.Reference.nD).tc : Thread _ Cert.Reference.τ).loc Cert.Reference.main_arg0))
      ∧ m ((c : Thread nD τ).loc main_arg1) = m' (((0 : Dev Cert.Reference.nD).tc : Thread _ Cert.Reference.τ).loc Cert.Reference.main_arg1)) :
    ∃ v : Buf (Elt F) (((0 : Dev Cert.Reference.nD).tc : Thread Cert.Reference.nD Cert.Reference.τ).loc Cert.Reference.main_v7),
      θ_run defs (onTc (τ := τ) (main (F := F))) ⟨m, fun _ => 0, ρ⟩ (fun r => ∀ c : Dev nD,
        r.2.mem ((c : Thread nD τ).loc main_v1) = part c v
        ∧ r.2.mem ((c : Thread nD τ).loc main_arg0) = m ((c : Thread nD τ).loc main_arg0)
        ∧ r.2.mem ((c : Thread nD τ).loc main_arg1) = m ((c : Thread nD τ).loc main_arg1))
      ∧ θ_run Cert.Reference.defs (onTc (τ := Cert.Reference.τ) (Cert.Reference.main (F := F))) ⟨m', fun _ => 0, ρ'⟩ (fun r =>
        r.2.mem (((0 : Dev Cert.Reference.nD).tc : Thread _ Cert.Reference.τ).loc Cert.Reference.main_v7) = v
        ∧ r.2.mem (((0 : Dev Cert.Reference.nD).tc : Thread _ Cert.Reference.τ).loc Cert.Reference.main_arg0)
            = m' (((0 : Dev Cert.Reference.nD).tc : Thread _ Cert.Reference.τ).loc Cert.Reference.main_arg0)
        ∧ r.2.mem (((0 : Dev Cert.Reference.nD).tc : Thread _ Cert.Reference.τ).loc Cert.Reference.main_arg1)
            = m' (((0 : Dev Cert.Reference.nD).tc : Thread _ Cert.Reference.τ).loc Cert.Reference.main_arg1)) := by
  refine ⟨Cert.ReferenceProof.rowsOf (m' (((0 : Dev Cert.Reference.nD).tc : Thread _ Cert.Reference.τ).loc Cert.Reference.main_arg0)) (table sw), ?_, ?_⟩
  · refine (θ_run defs _ _).mono (fun _ hr c => ⟨(hr.1 c).1.trans ?_, (hr.1 c).2⟩) (run sw m ρ (tabOK_of sw m h))
    exact outV_eq sw m _ (fun d => (agree d).1) c
  · refine (θ_run Cert.Reference.defs _ _).mono (fun _ hr => ⟨(hr.1 0).1.trans ?_, (hr.1 0).2⟩) (Cert.ReferenceProof.run m' ρ')
    rw [← (agree 0).2]
    exact congrArg _ (h 0)

end Cert.KernelProof

end
-- ==== Proof.KernelIdeal.Rows.lean ====
/-
The mesh and the row blocks of the exchange.

A device `c` of the 2 × 2 × 4 mesh (device id 8·x + 4·y + z) talks to two others: `px c`, the device its table entry
names along axis x, and `py c`, the other device along axis y. Its half of the 512 rows (256·y and up) is cut into eight
blocks of 32 rows. This module names the devices, the blocks of the operand and of the result, and says which elements
a block holds and what a transferred block leaves there.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.KernelIdealProof

open Cert.KernelIdeal Cert.KernelIdeal.Gen
open Idealize.ShloMosaic
open Idealize.ShloMosaic.TcCoe

variable {F : FTy → Type} [FloatOps F]

/-! ## The devices -/

/-- The table entry device `c` reads: its own x coordinate, or the other one when the table swaps (`sw`). -/
def word (sw : Bool) (c : Dev nD) : BitVec 32 := BitVec.ofNat 32 (if sw then 1 - c.val / 8 else c.val / 8)

/-- The device `c` sends its rows to along axis x: itself, or the device with the other x coordinate. -/
def px (sw : Bool) (c : Dev nD) : Dev nD := if sw then ⟨(c.val + 8) % 16, Nat.mod_lt _ (by decide)⟩ else c

/-- The device with the other y coordinate. -/
def py (c : Dev nD) : Dev nD := ⟨(8 * (c.val / 8) + (c.val % 4) + 4) - 4 * ((c.val / 4) % 2), by have : c.val < 16 := c.isLt; show _ < 16; omega⟩

theorem px_px : ∀ (sw : Bool) (c : Dev nD), px sw (px sw c) = c := by decide +kernel
theorem py_py : ∀ c : Dev nD, py (py c) = c := by decide +kernel
theorem py_ne : ∀ c : Dev nD, py c ≠ c := by decide +kernel
theorem px_py : ∀ (sw : Bool) (c : Dev nD), px sw (py c) = py (px sw c) := by decide +kernel
theorem y_px : ∀ (sw : Bool) (c : Dev nD), ((px sw c).val / 4) % 2 = (c.val / 4) % 2 := by decide +kernel
theorem y_py : ∀ c : Dev nD, ((py c).val / 4) % 2 = 1 - (c.val / 4) % 2 := by decide +kernel

/-- `px` and `py` as permutations of the devices. -/
def pxE (sw : Bool) : Dev nD ≃ Dev nD := ⟨px sw, px sw, px_px sw, px_px sw⟩
def pyE : Dev nD ≃ Dev nD := ⟨py, py, py_py, py_py⟩

/-- The table entry passes the kernel's range check, and every device id computed from it is `px c`'s. -/
theorem chk : ∀ (sw : Bool) (c : Dev nD), k0_chk1 c (word sw c) := by decide +kernel
theorem dev1_px : ∀ (sw : Bool) (c : Dev nD), k0_dev1 c (word sw c) = (px sw c).val := by decide +kernel
theorem dev3_px : ∀ (sw : Bool) (c : Dev nD), k0_dev3 c (word sw c) = (px sw c).val := by decide +kernel
theorem dev4_px : ∀ (sw : Bool) (c : Dev nD), k0_dev4 c (word sw c) = (px sw c).val := by decide +kernel
theorem dev5_px : ∀ (sw : Bool) (c : Dev nD), k0_dev5 c (word sw c) = (px sw c).val := by decide +kernel
theorem dev6_px : ∀ (sw : Bool) (c : Dev nD), k0_dev6 c (word sw c) = (px sw c).val := by decide +kernel
theorem dev7_px : ∀ (sw : Bool) (c : Dev nD), k0_dev7 c (word sw c) = (px sw c).val := by decide +kernel
theorem dev8_px : ∀ (sw : Bool) (c : Dev nD), k0_dev8 c (word sw c) = (px sw c).val := by decide +kernel
theorem dev9_px : ∀ (sw : Bool) (c : Dev nD), k0_dev9 c (word sw c) = (px sw c).val := by decide +kernel
theorem dev10_px : ∀ (sw : Bool) (c : Dev nD), k0_dev10 c (word sw c) = (px sw c).val := by decide +kernel

/-! ## The blocks -/

/-- Block `k` of device `c`'s half of the rows, in the result array; -/
abbrev outM (c : Dev nD) (k : Fin 8) : Memref sig .tc .hbm S32x512 .f32 :=
  ((Memref.whole main_v1).slice (Rect.unit (s := S1x512x512) (k0_off2 c (BitVec.ofNat 32 (32 * k.val))) S1x32x512.size (k0_off2_inb c k)) (fun _ => rfl)).squeeze S32x512 squeezes_S1x32x512_S32x512
/-- the same rows of the operand. -/
abbrev inM (c : Dev nD) (k : Fin 8) : Memref sig .tc .hbm S32x512 .f32 :=
  ((Memref.whole main_arg0).slice (Rect.unit (s := S1x512x512) (k0_off2 c (BitVec.ofNat 32 (32 * k.val))) S1x32x512.size (k0_off2_inb c k)) (fun _ => rfl)).squeeze S32x512 squeezes_S1x32x512_S32x512

/-- What one block's transfer signals. -/
abbrev N : ℕ := (outM 0 0).view.dmaCredit
theorem N_pos : 0 < N := View.dmaCredit_pos _ (by decide)

/-- The elements of block `k` of device `c`'s half. -/
def rows (c : Dev nD) (k : Fin 8) : Finset S1x512x512.Idx :=
  Finset.univ.filter fun i => 256 * ((c.val / 4) % 2) + 32 * k.val ≤ (i 1).val ∧ (i 1).val < 256 * ((c.val / 4) % 2) + 32 * k.val + 32

theorem mem_rows {c : Dev nD} {k : Fin 8} {i : S1x512x512.Idx} :
    Iff (i ∈ rows c k) (256 * ((c.val / 4) % 2) + 32 * k.val ≤ (i 1).val ∧ (i 1).val < 256 * ((c.val / 4) % 2) + 32 * k.val + 32) := by
  unfold rows; rw [Finset.mem_filter]; exact ⟨fun h => h.2, fun h => ⟨Finset.mem_univ _, h⟩⟩

theorem rect_set (c : Dev nD) (k : Fin 8) :
    (Rect.unit (s := S1x512x512) (k0_off2 c (BitVec.ofNat 32 (32 * k.val))) S1x32x512.size (k0_off2_inb c k)).set = rows c k := by
  ext i
  rw [Rect.mem_set_unit, mem_rows, k0_off2_eq]
  constructor
  · intro h
    exact h (1 : Fin 3)
  · rintro ⟨h1, h2⟩ a
    fin_cases a
    · exact ⟨Nat.zero_le _, (i 0).isLt⟩
    · exact ⟨h1, h2⟩
    · exact ⟨Nat.zero_le _, lt_of_lt_of_eq (i 2).isLt (Nat.zero_add _).symm⟩

theorem out_set (c : Dev nD) (k : Fin 8) : (outM c k).view.set = rows c k :=
  ((View.set_reshape _ _).trans (View.set_slice_whole main_v1 _)).trans (rect_set c k)
theorem in_set (c : Dev nD) (k : Fin 8) : (inM c k).view.set = rows c k :=
  ((View.set_reshape _ _).trans (View.set_slice_whole main_arg0 _)).trans (rect_set c k)

/-- A half depends on the y coordinate only. -/
theorem rows_px (sw : Bool) (c : Dev nD) (k : Fin 8) : rows (px sw c) k = rows c k := by
  ext i; rw [mem_rows, mem_rows, y_px]

/-- Different blocks of one half share no element, -/
theorem rows_disjoint {c : Dev nD} {k l : Fin 8} (h : k ≠ l) : Disjoint (rows c k) (rows c l) := by
  refine Finset.disjoint_left.mpr fun i hk hl => ?_
  rw [mem_rows] at hk hl
  exact h (Fin.ext (by omega))
/-- nor do blocks of the two halves; -/
theorem rows_disjoint_py (c : Dev nD) (k l : Fin 8) : Disjoint (rows c k) (rows (py c) l) := by
  refine Finset.disjoint_left.mpr fun i hk hl => ?_
  have := y_py c
  have := k.isLt
  have := l.isLt
  rw [mem_rows] at hk hl
  omega
/-- and the sixteen blocks of the two halves are the whole array. -/
theorem rows_cover (c : Dev nD) : (Finset.univ.biUnion (rows c)) ∪ (Finset.univ.biUnion (rows (py c))) = Finset.univ := by
  refine Finset.eq_univ_iff_forall.mpr fun i => ?_
  have hi : (i 1).val < 512 := (i 1).isLt
  have hp := y_py c
  have hy : (c.val / 4) % 2 < 2 := Nat.mod_lt _ (by decide)
  rw [Finset.mem_union, Finset.mem_biUnion, Finset.mem_biUnion]
  by_cases h : (i 1).val / 256 = (c.val / 4) % 2
  · refine .inl ⟨⟨((i 1).val % 256) / 32, by omega⟩, Finset.mem_univ _, mem_rows.mpr ?_⟩
    dsimp only; omega
  · refine .inr ⟨⟨((i 1).val % 256) / 32, by omega⟩, Finset.mem_univ _, mem_rows.mpr ?_⟩
    dsimp only; omega

/-! ## What a transfer leaves -/

/-- Element by element the block of the result lies where the block of the operand does. -/
theorem emb_eq (c : Dev nD) (k : Fin 8) (j : S32x512.Idx) :
    ((outM c k).view.emb j : S1x512x512.Idx) = (inM c k).view.emb j := rfl

/-- A block of the operand written into the same block of the result: there the result holds the operand's elements. -/
theorem land_in (c : Dev nD) (k : Fin 8) (fd : (main_v1 : Ref sig .tc).ty.Contents (Elt F)) (fs : (main_arg0 : Ref sig .tc).ty.Contents (Elt F))
    (i : S1x512x512.Idx) (hi : i ∈ rows c k) :
    (outM c k).view.write (Elt F) fd ((inM c k).view.read (Elt F) fs) Finset.univ i = fs i := by
  rw [← out_set] at hi
  obtain ⟨j, rfl⟩ := (outM c k).view.exists_emb_of_mem_set hi
  rw [View.write_emb_of_mem _ _ (Finset.mem_univ j), View.read_apply]
  rfl

/-- A block of the result written into the same block of another device's result. -/
theorem land_out (c : Dev nD) (k : Fin 8) (fd fs : (main_v1 : Ref sig .tc).ty.Contents (Elt F))
    (i : S1x512x512.Idx) (hi : i ∈ rows c k) :
    (outM c k).view.write (Elt F) fd ((outM c k).view.read (Elt F) fs) Finset.univ i = fs i := by
  rw [← out_set] at hi
  obtain ⟨j, rfl⟩ := (outM c k).view.exists_emb_of_mem_set hi
  rw [View.write_emb_of_mem _ _ (Finset.mem_univ j), View.read_apply]
  rfl

end Cert.KernelIdealProof

end
-- ==== Proof.KernelIdeal.Proto.lean ====
/-
The exchange between the devices, written down before the body is run.

Every device has one barrier counter and 32 transfer counters: for each block `k` of its half, one for its own send
along x, one for the block it receives along x, one for its own send along y, one for the block it receives along y.

  * To the barrier of `px c` and of `py c` device `c` gives leave to write: its own half of its result to `px c`, the other
    half to `py c`. Two arrivals are waited for.
  * Block `k` of the operand goes into the same block of `px c`'s result. What device `c` receives there is `px c`'s operand.
  * That block, once received, goes on into the same block of `py c`'s result. What device `c` receives there is the other
    half of the operand of `px (py c)`.

Each counter is used for one round. This module states the rounds' payloads, what a device owes when it starts, and the
order of the counters that shows the waits cannot be circular: barriers, then x arrivals, then y arrivals.
-/
module

public import proofs.«01_k».proof.Proof.KernelIdeal.Rows

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the pipeline's rounds and the exchange's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (sw : Bool) (m : (ℓ : Loc nD τ sig) → Buf (Elt F) ℓ)

/-! ## The counters -/

/-- The barrier counter. -/
abbrev barS : Sem sig := (SemArray.scalar (sig.barrier 0 rfl) : Sems sig S_).sem

/-- Transfer counter `k` of kind `i`: 0 sent along x, 1 received along x, 2 sent along y, 3 received along y. -/
def dsem (i : Fin 4) (k : Fin 8) : DmaSem sig := ⟨1 + 8 * i.val + k.val, by have := i.isLt; have := k.isLt; show _ < 33; omega⟩

abbrev barCell (c : Dev nD) : GSem nD τ sig := ((c : Thread nD τ), .reg barS)
abbrev dcell (i : Fin 4) (c : Dev nD) (k : Fin 8) : GSem nD τ sig := ((c : Thread nD τ), .dma (dsem i k))

/-- The kind and the block of a transfer counter, read off its number. -/
def kindOf (q : DmaSem sig) : Fin 4 := ⟨((q.val - 1) / 8) % 4, Nat.mod_lt _ (by decide)⟩
def blockOf (q : DmaSem sig) : Fin 8 := ⟨(q.val - 1) % 8, Nat.mod_lt _ (by decide)⟩

theorem kindOf_dsem : ∀ (i : Fin 4) (k : Fin 8), kindOf (dsem i k) = i := by decide +kernel
theorem blockOf_dsem : ∀ (i : Fin 4) (k : Fin 8), blockOf (dsem i k) = k := by decide +kernel
theorem dsem_pos : ∀ (i : Fin 4) (k : Fin 8), (dsem i k).val ≠ 0 := by decide +kernel

/-! ## Contents -/

/-- The operand of device `c`. -/
def src (c : Dev nD) : (main_arg0 : Ref sig .tc).ty.Contents (Elt F) := m ((c : Thread nD τ).loc main_arg0)

/-- Block `k` of device `c`'s half of the operand, at its contents; -/
def inPts (c : Dev nD) (k : Fin 8) : sProp 𝕄 := ((c : Thread nD τ).loc main_arg0) ↦[rows c k]{fullShare} src m c
/-- block `k` of device `c`'s half of device `e`'s result, at contents `f`; -/
def outPts (e c : Dev nD) (k : Fin 8) (f : (main_v1 : Ref sig .tc).ty.Contents (Elt F)) : sProp 𝕄 :=
  ((e : Thread nD τ).loc main_v1) ↦[rows c k]{fullShare} f
/-- and at some contents. -/
def outAny (e c : Dev nD) (k : Fin 8) : sProp 𝕄 := iprop(∃ f : (main_v1 : Ref sig .tc).ty.Contents (Elt F), outPts e c k f)

instance inPts_storable (c : Dev nD) (k : Fin 8) : BI.Storable (upEmb : UEmb _ 𝕄) (inPts (F := F) m c k) := by unfold inPts; infer_instance
instance outPts_storable (e c : Dev nD) (k : Fin 8) (f) : BI.Storable (upEmb : UEmb _ 𝕄) (outPts (F := F) e c k f) := by unfold outPts; infer_instance
instance outAny_storable (e c : Dev nD) (k : Fin 8) : BI.Storable (upEmb : UEmb _ 𝕄) (outAny (F := F) e c k) := by unfold outAny; infer_instance

theorem inPts_view (c : Dev nD) (k : Fin 8) :
    (inPts m c k : sProp 𝕄) = ((inM c k).view.loc (c : Thread nD τ) ↦[(inM c k).view.set]{fullShare} src m c) := by
  unfold inPts; rw [in_set]; try rfl
theorem outPts_view (e c : Dev nD) (k : Fin 8) (f) :
    (outPts e c k f : sProp 𝕄) = ((outM c k).view.loc (e : Thread nD τ) ↦[(outM c k).view.set]{fullShare} f) := by
  unfold outPts; rw [out_set]; try rfl

theorem outPts_px (e c : Dev nD) (k : Fin 8) (f) : (outPts e (px sw c) k f : sProp 𝕄) = outPts e c k f := by
  unfold outPts; rw [rows_px]
theorem outAny_px (e c : Dev nD) (k : Fin 8) : (outAny e (px sw c) k : sProp 𝕄) = outAny e c k := by
  unfold outAny; simp only [outPts_px]

/-! ## The rounds -/

/-- The device behind the two arrivals at a barrier: along x (`false`) and along y (`true`). -/
def nb (c : Dev nD) (d : Bool) : Dev nD := if d then py c else px sw c

/-- An arrival at `c`'s barrier gives `c` leave to write its half of the arriving device's result. -/
def barPay (c : Dev nD) (d : Bool) : sProp 𝕄 := bigSep Finset.univ fun k : Fin 8 => outAny (nb sw c d) c k

/-- What the transfer counters' rounds hand over: the source block back to a sender; to a receiver its block, at what
    was sent. -/
def movePay (c : Dev nD) (i : Fin 4) (k : Fin 8) : sProp 𝕄 :=
  match i with
  | 0 => inPts m c k
  | 1 => outPts c c k (src m (px sw c))
  | 2 => outPts c c k (src m (px sw c))
  | 3 => outPts c (py c) k (src m (px sw (py c)))

instance barPay_storable (c : Dev nD) (d : Bool) : BI.Storable (upEmb : UEmb _ 𝕄) (barPay (F := F) sw c d) := by unfold barPay; infer_instance
instance movePay_storable (c : Dev nD) (i : Fin 4) (k : Fin 8) : BI.Storable (upEmb : UEmb _ 𝕄) (movePay (F := F) sw m c i k) := by
  unfold movePay; split <;> infer_instance

/-- One round on every counter of the exchange: two arrivals of one unit at a barrier, one block at a transfer counter. -/
def sched : Rounds.Schedule (GSem nD τ sig) Bool 𝕄 where
  duties g r := if r = 0 ∧ g.1.2 = .tc then (match g.2 with | .reg _ => Finset.univ | .dma q => if q.val = 0 then ∅ else {false}) else ∅
  unitless _ := False
  amount g _ _ := match g.2 with | .reg _ => 1 | .dma _ => N
  payload g _ d := match g.2 with | .reg _ => barPay sw g.1.1 d | .dma q => movePay sw m g.1.1 (kindOf q) (blockOf q)
  amount_pos g _ _ _ := by split; exacts [Nat.one_pos, N_pos]

instance sched_storable (g : GSem nD τ sig) (r : ℕ) (d : Bool) : BI.Storable (upEmb : UEmb _ 𝕄) ((sched (F := F) sw m).payload g r d) := by
  obtain ⟨t, s⟩ := g
  cases s <;> (dsimp only [sched]; infer_instance)

theorem duties_bar (c : Dev nD) : (sched (F := F) sw m).duties (barCell c) 0 = Finset.univ := by
  dsimp only [sched]; rw [if_pos ⟨rfl, rfl⟩]
theorem duties_move (i : Fin 4) (c : Dev nD) (k : Fin 8) : (sched (F := F) sw m).duties (dcell i c k) 0 = {false} := by
  dsimp only [sched]; rw [if_pos ⟨rfl, rfl⟩, if_neg (dsem_pos i k)]
theorem duties_later (g : GSem nD τ sig) : ∀ r, 0 + 1 ≤ r → (sched (F := F) sw m).duties g r = ∅ :=
  fun r hr => by dsimp only [sched]; rw [if_neg fun h => by have := h.1; omega]

theorem amount_bar (c : Dev nD) (d : Bool) : (sched (F := F) sw m).amount (barCell c) 0 d = 1 := rfl
theorem amount_move (i : Fin 4) (c : Dev nD) (k : Fin 8) (d : Bool) : (sched (F := F) sw m).amount (dcell i c k) 0 d = N := rfl

theorem expect_bar (c : Dev nD) : (sched (F := F) sw m).expect (barCell c) 0 = 2 := by
  unfold Schedule.expect Schedule.amountOf
  rw [duties_bar, Finset.sum_congr rfl fun d _ => amount_bar sw m c d, Finset.sum_const, Finset.card_univ, Fintype.card_bool, smul_eq_mul]
theorem expect_move (i : Fin 4) (c : Dev nD) (k : Fin 8) : (sched (F := F) sw m).expect (dcell i c k) 0 = N := by
  unfold Schedule.expect Schedule.amountOf; rw [duties_move, Finset.sum_singleton, amount_move]

theorem payload_bar (c : Dev nD) (d : Bool) : (sched (F := F) sw m).payload (barCell c) 0 d = barPay sw c d := rfl
theorem payload_move (i : Fin 4) (c : Dev nD) (k : Fin 8) (d : Bool) : (sched (F := F) sw m).payload (dcell i c k) 0 d = movePay sw m c i k := by
  show movePay sw m c (kindOf (dsem i k)) (blockOf (dsem i k)) = _
  rw [kindOf_dsem, blockOf_dsem]

/-- What a full barrier round hands over, and what a full transfer round does. -/
theorem rest_bar (c : Dev nD) : bigSep ((sched (F := F) sw m).duties (barCell c) 0 \ ∅) (fun d => (sched (F := F) sw m).payload (barCell c) 0 d)
    = iprop(barPay sw c false ∗ barPay sw c true) := by
  rw [Finset.sdiff_empty, duties_bar, bigSep_univ_eq_bigSepL [false, true] (by decide) (by decide), bigSepL_cons_cons, bigSepL_singleton]
  rfl
theorem rest_move (i : Fin 4) (c : Dev nD) (k : Fin 8) :
    bigSep ((sched (F := F) sw m).duties (dcell i c k) 0 \ ∅) (fun d => (sched (F := F) sw m).payload (dcell i c k) 0 d) = movePay sw m c i k := by
  rw [Finset.sdiff_empty, duties_move, bigSep_singleton, payload_move]

/-! ## What a device owes -/

/-- Where block `k` has passed `f k` of its six steps, device `c` still owes: to `py c` every block not yet sent along y
    (two steps before it), to `px c` every block not yet sent along x. -/
def due (c : Dev nD) (f : Fin 8 → ℕ) : CellTallies nD τ sig Unit :=
  (∑ k, if f k < 3 then tallyAt (dcell 3 (py c) k) () N else 0) + ∑ k, if f k < 1 then tallyAt (dcell 1 (px sw c) k) () N else 0

/-- At launch it owes all of these and one unit to each of the two barriers. -/
def due₁ (c : Dev nD) : CellTallies nD τ sig Unit := due sw c (fun _ => 0) + tallyAt (barCell (py c)) () 1
def due₀ (c : Dev nD) : CellTallies nD τ sig Unit := due₁ sw c + tallyAt (barCell (px sw c)) () 1

theorem sum_peel {A : Type} [AddCommMonoid A] (g g' : Fin 8 → A) (k : Fin 8) (t : A) (h : ∀ j, j ≠ k → g j = g' j) (hk : g k = g' k + t) :
    ∑ j, g j = ∑ j, g' j + t := by
  rw [← Finset.add_sum_erase _ g (Finset.mem_univ k), ← Finset.add_sum_erase _ g' (Finset.mem_univ k), hk,
    Finset.sum_congr rfl fun j hj => h j (Finset.ne_of_mem_erase hj)]
  exact add_right_comm _ _ _

/-- The first step of block `k` pays its due along x; -/
theorem due_x (c : Dev nD) (f f' : Fin 8 → ℕ) (k : Fin 8) (hk : f k = 0) (hf : f' = Function.update f k 1) :
    due sw c f = due sw c f' + tallyAt (dcell 1 (px sw c) k) () N := by
  subst hf
  unfold due
  rw [sum_peel (fun j => if f j < 1 then tallyAt (dcell 1 (px sw c) j) () N else 0)
      (fun j => if Function.update f k 1 j < 1 then tallyAt (dcell 1 (px sw c) j) () N else 0) k (tallyAt (dcell 1 (px sw c) k) () N)
      (fun j hj => by simp only [Function.update_of_ne hj]) (by simp [hk]), ← add_assoc]
  congr 2
  refine Finset.sum_congr rfl fun j _ => ?_
  by_cases hj : j = k
  · subst hj; simp [hk]
  · simp only [Function.update_of_ne hj]

/-- the third pays its due along y; -/
theorem due_y (c : Dev nD) (f f' : Fin 8 → ℕ) (k : Fin 8) (hk : f k = 2) (hf : f' = Function.update f k 3) :
    due sw c f = due sw c f' + tallyAt (dcell 3 (py c) k) () N := by
  subst hf
  unfold due
  rw [sum_peel (fun j => if f j < 3 then tallyAt (dcell 3 (py c) j) () N else 0)
      (fun j => if Function.update f k 3 j < 3 then tallyAt (dcell 3 (py c) j) () N else 0) k (tallyAt (dcell 3 (py c) k) () N)
      (fun j hj => by simp only [Function.update_of_ne hj]) (by simp [hk]), add_right_comm]
  congr 2
  refine Finset.sum_congr rfl fun j _ => ?_
  by_cases hj : j = k
  · subst hj; simp [hk]
  · simp only [Function.update_of_ne hj]

/-- the others pay nothing. -/
theorem due_same (c : Dev nD) (f f' : Fin 8 → ℕ) (k : Fin 8) (j : ℕ) (hj : j = 1 ∨ 3 ≤ j) (hk : f k = j) (hf : f' = Function.update f k (j + 1)) :
    due sw c f = due sw c f' := by
  subst hf
  unfold due
  congr 1 <;>
  · refine Finset.sum_congr rfl fun l _ => ?_
    by_cases hl : l = k
    · subst hl; rw [Function.update_self, hk]; congr 1; rw [eq_iff_iff]; omega
    · simp only [Function.update_of_ne hl]

theorem due_pos {c : Dev nD} {f : Fin 8 → ℕ} {g : GSem nD τ sig} {u : Unit} (h : 0 < due sw c f g u) :
    (∃ k, f k < 3 ∧ g = dcell 3 (py c) k) ∨ ∃ k, f k < 1 ∧ g = dcell 1 (px sw c) k := by
  unfold due at h
  rw [Pi.add_apply, Finsupp.add_apply] at h
  have key : ∀ (n : ℕ) (i : Fin 4) (e : Dev nD), 0 < (∑ k, if f k < n then (tallyAt (dcell i e k) () N : CellTallies nD τ sig Unit) else 0) g u →
      ∃ k, f k < n ∧ g = dcell i e k := by
    intro n i e hs
    obtain ⟨k, -, hk⟩ := Pipeline.sum_pos_exists hs
    by_cases hn : f k < n
    · rw [if_pos hn, tallyAt_apply] at hk
      by_cases hg : g = dcell i e k
      · exact ⟨k, hn, hg⟩
      · rw [if_neg fun h' => hg h'.1] at hk; exact absurd hk (Nat.lt_irrefl 0)
    · rw [if_neg hn] at hk; exact absurd hk (Nat.lt_irrefl 0)
  rcases Nat.pos_of_ne_zero (n := _) (Nat.pos_iff_ne_zero.mp h) |> Nat.add_pos_iff_pos_or_pos.mp with h | h
  · exact .inl (key _ _ _ h)
  · exact .inr (key _ _ _ h)

/-! ## The order of the counters -/

def L (g : GSem nD τ sig) : Finset Unit := if g.1.2 = .tc then {()} else ∅
/-- Barriers come first, then the counters of what arrives along x, then of what arrives along y; before all, the rest. -/
def lv (g : GSem nD τ sig) (_ : Unit) : ℕ :=
  match g.2 with
  | .reg _ => 1
  | .dma q => if q.val = 0 then 0 else if kindOf q = 1 then 2 else if kindOf q = 3 then 3 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_xin (c : Dev nD) (k : Fin 8) : lv (dcell 1 c k) () = 2 := by
  dsimp only [lv]; rw [if_neg (dsem_pos 1 k), kindOf_dsem, if_pos rfl]
theorem lv_yin (c : Dev nD) (k : Fin 8) : lv (dcell 3 c k) () = 3 := by
  dsimp only [lv]; rw [if_neg (dsem_pos 3 k), kindOf_dsem, if_neg (by decide), if_pos rfl]

/-- A device may wait on a counter when everything it owes lies higher. -/
theorem mayWait (c : Dev nD) (s : SemLoc sig) (O : CellTallies nD τ sig Unit)
    (h : ∀ g u, 0 < O g u → g.1.2 = .tc ∧ lv ((c : Thread nD τ), s) () < lv g ()) :
    (levAts L lv : sProp 𝕄) ⊢ MayWait (c : Thread nD τ) s () O :=
  Pipeline.mayWait_of_levAts (by rw [L_tc]; exact Finset.mem_singleton_self _) fun g u hg => by
    have := h g u hg
    exact ⟨by unfold L; rw [if_pos this.1]; exact Finset.mem_singleton_self _, this.2⟩

/-- At its barrier a device owes blocks only. -/
theorem mayWait_bar (c : Dev nD) (f : Fin 8 → ℕ) : (levAts L lv : sProp 𝕄) ⊢ MayWait (c : Thread nD τ) (.reg barS) () (due sw c f) :=
  mayWait c _ _ fun g u hg => by
    rcases due_pos sw hg with ⟨k, -, rfl⟩ | ⟨k, -, rfl⟩
    · exact ⟨rfl, by rw [lv_yin, lv_bar]; decide⟩
    · exact ⟨rfl, by rw [lv_xin, lv_bar]; decide⟩

/-- Once all blocks are sent along x, it may wait for what arrives along x; -/
theorem mayWait_xin (c : Dev nD) (f : Fin 8 → ℕ) (k : Fin 8) (hf : ∀ k, 1 ≤ f k) :
    (levAts L lv : sProp 𝕄) ⊢ MayWait (c : Thread nD τ) (.dma (dsem 1 k)) () (due sw c f) :=
  mayWait c _ _ fun g u hg => by
    rcases due_pos sw hg with ⟨l, -, rfl⟩ | ⟨l, hl, -⟩
    · exact ⟨rfl, by rw [lv_yin, lv_xin]; decide⟩
    · have := hf l; omega

/-- and once all are sent along y it may wait for anything. -/
theorem mayWait_done (c : Dev nD) (f : Fin 8 → ℕ) (s : SemLoc sig) (hf : ∀ k, 3 ≤ f k) :
    (levAts L lv : sProp 𝕄) ⊢ MayWait (c : Thread nD τ) s () (due sw c f) :=
  mayWait c _ _ fun g u hg => by
    rcases due_pos sw hg with ⟨l, hl, -⟩ | ⟨l, hl, -⟩
    · have := hf l; omega
    · have := hf l; omega

/-- Its table's counter, which lies below all others, it may wait on while it owes everything. -/
theorem mayWait_stage (c : Dev nD) (q : DmaSem sig) (hq : q.val = 0) (O : CellTallies nD τ sig Unit) (hO : O = due₀ sw c ∨ O = 0) :
    (levAts L lv : sProp 𝕄) ⊢ MayWait (c : Thread nD τ) (.dma q) () O := by
  have h0 : lv ((c : Thread nD τ), .dma q) () = 0 := if_pos hq
  rcases hO with rfl | rfl
  · refine mayWait c _ _ fun g u hg => ?_
    rw [h0]
    have hb : ∀ e : Dev nD, 0 < (tallyAt (barCell e) () 1 : CellTallies nD τ sig Unit) g u → g = barCell e := by
      intro e he
      rw [tallyAt_apply] at he
      by_contra hn
      rw [if_neg fun h' => hn h'.1] at he; exact Nat.lt_irrefl 0 he
    unfold due₀ due₁ at hg
    rw [Pi.add_apply, Finsupp.add_apply, Pi.add_apply, Finsupp.add_apply] at hg
    rcases Nat.add_pos_iff_pos_or_pos.mp hg with hg | hg
    · rcases Nat.add_pos_iff_pos_or_pos.mp hg with hg | hg
      · rcases due_pos sw hg with ⟨k, -, rfl⟩ | ⟨k, -, rfl⟩
        · exact ⟨rfl, by rw [lv_yin]; decide⟩
        · exact ⟨rfl, by rw [lv_xin]; decide⟩
      · rw [hb _ hg]; exact ⟨rfl, by rw [lv_bar]; decide⟩
    · rw [hb _ hg]; exact ⟨rfl, by rw [lv_bar]; decide⟩
  · rw [MayWait_zero]; iintro -; iempintro

/-- Nothing is owed at the end. -/
theorem due_done (c : Dev nD) (f : Fin 8 → ℕ) (hf : ∀ k, 3 ≤ f k) : due sw c f = 0 := by
  unfold due
  rw [Finset.sum_eq_zero fun k _ => if_neg (by have := hf k; omega), Finset.sum_eq_zero fun k _ => if_neg (by have := hf k; omega), add_zero]

end Cert.KernelIdealProof

end
-- ==== Proof.KernelIdeal.Steps.lean ====
/-
The steps of one block.

Between the barrier and the end, block `k` of device `c`'s half passes six steps: it is sent along x, the block arriving
along x is waited for, that one is sent on along y, the block arriving along y is waited for, and the two sends are
waited for. `Chunk c k j` is what device `c` holds of block `k` after `j` steps; `St c f` is what it holds when block `k`
has passed `f k` steps, with what it then owes. Each operation of the kernel after the barrier is one step of one block.
-/
module

public import proofs.«01_k».proof.Proof.KernelIdeal.Proto

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (sw : Bool) (m : (ℓ : Loc nD τ sig) → Buf (Elt F) ℓ)

abbrev 𝒱₀ : Variants := Variants.none

/-! ## What all devices know -/

/-- A device's counters: the barrier, and the transfer counters by kind and block. -/
abbrev CI : Type := Unit ⊕ (Fin 4 × Fin 8)
abbrev csem : CI → SemLoc sig := fun | .inl _ => .reg barS | .inr ik => .dma (dsem ik.1 ik.2)
abbrev kcell (cj : Dev nD × CI) : GSem nD τ sig := ((cj.1 : Thread nD τ), csem cj.2)

variable (K : Dev nD × CI → ℕ)

/-- Every counter's invariant, under its name in `K`; every counter at its first round; the order of the counters. -/
def records : sProp 𝕄 :=
  iprop((bigSep Finset.univ fun ck : Dev nD × CI => cellInv ER (sched sw m) (K ck) (kcell ck))
    ∗ (bigSep Finset.univ fun ck : Dev nD × CI => reached ER (kcell ck) 0) ∗ levAts L lv)

instance records_persistent : BI.Persistent (records (F := F) sw m K) := by unfold records; infer_instance

/-- One member out of a family over everything. -/
theorem bigSep_one {I : Type} [Fintype I] [DecidableEq I] (Φ : I → sProp 𝕄) (i : I) : (bigSep Finset.univ Φ : sProp 𝕄) ⊢ Φ i :=
  bigSep_elim (Finset.mem_univ i)

theorem records_inv (ck : Dev nD × CI) : (records sw m K : sProp 𝕄) ⊢ cellInv ER (sched sw m) (K ck) (kcell ck) := by
  unfold records
  iintro ⟨HI, -, -⟩
  iapply (bigSep_one (fun ck : Dev nD × CI => (cellInv ER (sched sw m) (K ck) (kcell ck) : sProp 𝕄)) ck)
  iexact HI
theorem records_reached (ck : Dev nD × CI) : (records sw m K : sProp 𝕄) ⊢ reached ER (kcell ck) 0 := by
  unfold records
  iintro ⟨-, HR, -⟩
  iapply (bigSep_one (fun ck : Dev nD × CI => (reached ER (kcell ck) 0 : sProp 𝕄)) ck)
  iexact HR
theorem records_inv_move (i : Fin 4) (c : Dev nD) (k : Fin 8) :
    (records sw m K : sProp 𝕄) ⊢ cellInv ER (sched sw m) (K (c, .inr (i, k))) (dcell i c k) := records_inv sw m K (c, .inr (i, k))
theorem records_lev : (records sw m K : sProp 𝕄) ⊢ levAts L lv := by
  unfold records
  iintro ⟨-, -, H⟩
  iexact H

/-! ## What one device holds -/

/-- What device `c` owes, whatever waits it has made. -/
def ow (c : Dev nD) (O : CellTallies nD τ sig Unit) : sProp 𝕄 := iprop(∃ W, owes (c : Thread nD τ) O W)

abbrev tok (i : Fin 4) (c : Dev nD) (k : Fin 8) : sProp 𝕄 := dutyTok ER (dcell i c k) 0 false
abbrev pos (i : Fin 4) (c : Dev nD) (k : Fin 8) : sProp 𝕄 := atPos ER (dcell i c k) 0 ∅ 0
abbrev crd (i : Fin 4) (c : Dev nD) (k : Fin 8) : sProp 𝕄 := cred (tallyAt (dcell i c k) () N)
abbrev zero (i : Fin 4) (c : Dev nD) (k : Fin 8) : sProp 𝕄 := semVal (dcell i c k) 0

/-- Block `k` of device `c` after `j` of its six steps. -/
def Chunk (c : Dev nD) (k : Fin 8) : ℕ → sProp 𝕄
  | 0 => iprop((inPts m c k ∗ outAny (px sw c) c k ∗ tok 0 c k ∗ tok 1 (px sw c) k) ∗ pos 0 c k ∗ (pos 1 c k ∗ crd 1 c k)
      ∗ (outAny (py c) c k ∗ tok 2 c k ∗ tok 3 (py c) k) ∗ pos 2 c k ∗ pos 3 c k ∗ crd 3 c k)
  | 1 => iprop(crd 0 c k ∗ pos 0 c k ∗ (pos 1 c k ∗ crd 1 c k)
      ∗ (outAny (py c) c k ∗ tok 2 c k ∗ tok 3 (py c) k) ∗ pos 2 c k ∗ pos 3 c k ∗ crd 3 c k)
  | 2 => iprop((crd 0 c k ∗ pos 0 c k ∗ zero 1 c k) ∗ (outPts c c k (src m (px sw c))
      ∗ outAny (py c) c k ∗ tok 2 c k ∗ tok 3 (py c) k) ∗ pos 2 c k ∗ pos 3 c k ∗ crd 3 c k)
  | 3 => iprop((crd 0 c k ∗ pos 0 c k ∗ zero 1 c k) ∗ (crd 2 c k ∗ pos 2 c k) ∗ pos 3 c k ∗ crd 3 c k)
  | 4 => iprop((crd 0 c k ∗ pos 0 c k) ∗ zero 1 c k ∗ (crd 2 c k ∗ pos 2 c k) ∗ zero 3 c k ∗ outPts c (py c) k (src m (px sw (py c))))
  | 5 => iprop((inPts m c k ∗ zero 0 c k ∗ zero 1 c k) ∗ (crd 2 c k ∗ pos 2 c k) ∗ zero 3 c k ∗ outPts c (py c) k (src m (px sw (py c))))
  | 6 => iprop((inPts m c k ∗ zero 0 c k ∗ zero 1 c k) ∗ (outPts c c k (src m (px sw c)) ∗ zero 2 c k) ∗ zero 3 c k ∗ outPts c (py c) k (src m (px sw (py c))))
  | _ => iprop(emp)

/-- All eight blocks, block `k` after `f k` steps, and what is then owed. -/
def St (c : Dev nD) (f : Fin 8 → ℕ) : sProp 𝕄 :=
  iprop((bigSep Finset.univ fun k : Fin 8 => Chunk sw m c k (f k)) ∗ ow c (due sw c f))

/-- All blocks but block `k`. -/
def Others (c : Dev nD) (f : Fin 8 → ℕ) (k : Fin 8) : sProp 𝕄 := bigSep (Finset.univ.erase k) fun l : Fin 8 => Chunk sw m c l (f l)

theorem chunks_at (c : Dev nD) (f : Fin 8 → ℕ) (k : Fin 8) (j : ℕ) (hk : f k = j) :
    (bigSep Finset.univ fun l : Fin 8 => (Chunk sw m c l (f l) : sProp 𝕄))
      = iprop(Chunk sw m c k j ∗ Others sw m c f k) := by
  subst hk; exact bigSep_univ_at _ k
theorem chunks_next (c : Dev nD) (f f' : Fin 8 → ℕ) (k : Fin 8) (j : ℕ) (hf : f' = Function.update f k j) :
    (bigSep Finset.univ fun l : Fin 8 => (Chunk sw m c l (f' l) : sProp 𝕄))
      = iprop(Chunk sw m c k j ∗ Others sw m c f k) := by
  subst hf
  rw [bigSep_univ_at _ k, Function.update_self]
  unfold Others
  congr 1
  exact bigSep_congr fun l hl => by rw [Function.update_of_ne (Finset.ne_of_mem_erase hl)]

/-! ## The operations -/

/-- A wait on one of its own transfer counters: the round's payload, and the counter, used up, at zero. -/
theorem wait_move (c : Dev nD) (i : Fin 4) (k : Fin 8) (O : CellTallies nD τ sig Unit)
    {sp sp' : Space} {s s' : Shape} {e e' : EltTy} {q : DmaSem sig} (hq : q = dsem i k)
    {a : Memref sig .tc sp' s' e'} {κ' : Kind} {b : Memref sig κ' sp s e} {ha : a.view.WordExact} {hb : b.view.WordExact} (hN : b.view.dmaCredit = N)
    {α : Type} {Q : α → sProp 𝕄} {kt : PUnit → Prog (TpuEff nD τ sig (Elt F) Λ₀ .tc) α}
    (hmay : (levAts L lv : sProp 𝕄) ⊢ MayWait (c : Thread nD τ) (.dma (dsem i k)) () O) :
    iprop(records sw m K ∗ crd i c k ∗ pos i c k ∗ ow c O)
      ⊢ iprop(((movePay sw m c i k ∗ zero i c k ∗ ow c O) -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 q a b ha hb) kt) Q) := by
  subst hq
  unfold ow
  iintro ⟨#HR, Hc, Hp, ⟨%W, HO⟩⟩ Hk
  ihave #HI := (records_inv_move sw m K i c k) $$ HR
  ihave #Hl := (@records_lev F _ sw m K) $$ HR
  iapply (Rounds.wp_wait_rest_token 𝒱₀ ER (sched sw m) (c : Thread nD τ) none (κ := K (c, .inr (i, k)))
      (wpE_waitDma2_eq 𝒱₀ (c : Thread nD τ) none Set.univ) (Set.mem_univ _) () (O := O) (W := W) (R := 0) (m := 0) (T := ∅)
      (by rw [Nat.zero_add, expect_move]; exact hN)) $$ [Hc HO Hp]
  · isplitr; · iexact HI
    isplitl [Hc]
    · iapply (Entails.of_eq (congrArg (fun n => (cred (tallyAt (dcell i c k) () n) : sProp 𝕄)) hN.symm)); iexact Hc
    isplitl [HO]; · iexact HO
    isplitr; · iapply hmay; iexact Hl
    iexact Hp
  iintro ⟨HO, Hp, -, Hpay⟩
  ihave Hpay := (Entails.of_eq (rest_move sw m i c k)) $$ Hpay
  imod (Rounds.cell_close ER (sched sw m) (Set.mem_univ (K (c, .inr (i, k)))) (fun h => h) (R := 0 + 1) (duties_later sw m (dcell i c k))) $$ [Hp] with Hz
  · isplitr; · iexact HI
    iexact Hp
  iapply Hk
  isplitl [Hpay]; · iexact Hpay
  isplitl [Hz]; · iexact Hz
  iexists _; iexact HO

/-- A block's transfer signals `N` on whichever counter. -/
theorem amount_out (c : Dev nD) (k : Fin 8) (q : DmaSem sig) : (outM c k).view.amount (.dma q) = N := rfl

/-- What a send along x leaves at its two ends is what the rounds there hand over; -/
theorem pay_xsrc (c : Dev nD) (k : Fin 8) :
    ((inM c k).view.loc (c : Thread nD τ) ↦[(inM c k).view.set]{fullShare} src m c : sProp 𝕄) ⊢ (sched sw m).payload (dcell 0 c k) 0 false := by
  rw [payload_move]; exact Entails.of_eq (inPts_view m c k).symm
theorem pay_xdst (c : Dev nD) (k : Fin 8) (fd : (main_v1 : Ref sig .tc).ty.Contents (Elt F)) :
    ((outM c k).view.loc (px sw c : Thread nD τ) ↦[(outM c k).view.set]{fullShare}
        (outM c k).view.write (Elt F) fd ((inM c k).view.read (Elt F) (src m c)) Finset.univ : sProp 𝕄)
      ⊢ (sched sw m).payload (dcell 1 (px sw c) k) 0 false := by
  rw [payload_move]
  show _ ⊢ outPts (px sw c) (px sw c) k (src m (px sw (px sw c)))
  rw [px_px, outPts_px]
  unfold outPts
  rw [out_set]
  exact Entails.of_eq (pointsTo_congr fun i hi => land_in c k fd (src m c) i hi)

/-- and so along y. -/
theorem pay_ysrc (c : Dev nD) (k : Fin 8) :
    ((outM c k).view.loc (c : Thread nD τ) ↦[(outM c k).view.set]{fullShare} src m (px sw c) : sProp 𝕄) ⊢ (sched sw m).payload (dcell 2 c k) 0 false := by
  rw [payload_move]; exact Entails.of_eq (outPts_view c c k _).symm
theorem pay_ydst (c : Dev nD) (k : Fin 8) (fd : (main_v1 : Ref sig .tc).ty.Contents (Elt F)) :
    ((outM c k).view.loc (py c : Thread nD τ) ↦[(outM c k).view.set]{fullShare}
        (outM c k).view.write (Elt F) fd ((outM c k).view.read (Elt F) (src m (px sw c))) Finset.univ : sProp 𝕄)
      ⊢ (sched sw m).payload (dcell 3 (py c) k) 0 false := by
  rw [payload_move]
  show _ ⊢ outPts (py c) (py (py c)) k (src m (px sw (py (py c))))
  rw [py_py]
  unfold outPts
  rw [out_set]
  exact Entails.of_eq (pointsTo_congr fun i hi => land_out c k fd (src m (px sw c)) i hi)

/-- A send between the blocks `a` and `b`, from device `c` to device `n`: `A` is the source block, and any `outPts n c k f`
    the target block; what the send leaves is what the rounds of its two counters hand over. -/
def Ends (c n : Dev nD) (i₁ i₂ : Fin 4) (k : Fin 8) (A : sProp 𝕄) (a b : Memref sig .tc .hbm S32x512 .f32) : Prop :=
  ∃ fs : Buf (Elt F) (a.view.loc (c : Thread nD τ)),
    (A ⊢ (a.view.loc (c : Thread nD τ) ↦[a.view.set]{fullShare} fs))
    ∧ ((a.view.loc (c : Thread nD τ) ↦[a.view.set]{fullShare} fs : sProp 𝕄) ⊢ (sched sw m).payload (dcell i₁ c k) 0 false)
    ∧ ∀ f, ∃ fd : Buf (Elt F) (b.view.loc (n : Thread nD τ)),
      ((outPts n c k f : sProp 𝕄) ⊢ (b.view.loc (n : Thread nD τ) ↦[b.view.set]{fullShare} fd))
      ∧ ((b.view.loc (n : Thread nD τ) ↦[b.view.set]{fullShare} b.view.write (Elt F) fd (a.view.read (Elt F) fs) Finset.univ : sProp 𝕄)
          ⊢ (sched sw m).payload (dcell i₂ n k) 0 false)

theorem ends_x (c : Dev nD) (k : Fin 8) {a b : Memref sig .tc .hbm S32x512 .f32} (ha : a = inM c k) (hb : b = outM c k) :
    Ends sw m c (px sw c) 0 1 k (inPts m c k) a b := by
  subst ha; subst hb
  exact ⟨src m c, Entails.of_eq (inPts_view m c k), pay_xsrc sw m c k, fun f =>
    ⟨f, Entails.of_eq (outPts_view (px sw c) c k f), pay_xdst sw m c k f⟩⟩
theorem ends_y (c : Dev nD) (k : Fin 8) {a b : Memref sig .tc .hbm S32x512 .f32} (ha : a = outM c k) (hb : b = outM c k) :
    Ends sw m c (py c) 2 3 k (outPts c c k (src m (px sw c))) a b := by
  subst ha; subst hb
  exact ⟨src m (px sw c), Entails.of_eq (outPts_view c c k _), pay_ysrc sw m c k, fun f =>
    ⟨f, Entails.of_eq (outPts_view (py c) c k f), pay_ydst sw m c k f⟩⟩

theorem amount_eq {b : Memref sig .tc .hbm S32x512 .f32} (c : Dev nD) (k : Fin 8) (hb : b = outM c k) (q : DmaSem sig) : b.view.amount (.dma q) = N := by
  subst hb; exact amount_out c k q

/-- A send of one block: the source block, leave to write the target block, the two duties it discharges. -/
theorem send_move (c n : Dev nD) (i₁ i₂ : Fin 4) (k : Fin 8) (O : CellTallies nD τ sig Unit) {A : sProp 𝕄}
    {a b : Memref sig .tc .hbm S32x512 .f32} (hE : Ends sw m c n i₁ i₂ k A a b) {p q : DmaSem sig} (hp : p = dsem i₁ k) (hq : q = dsem i₂ k)
    (hN : b.view.amount (.dma q) = N)
    {hsc : (b : Memref sig (Dev.tc n : Thread nD τ).2.kind .hbm S32x512 .f32).view.ref.isScScratch = false}
    {hsrc : a.view.WordExact} {hdst : b.view.WordExact}
    {hsem : DmaTarget.Typed .hbm (.dma q) (.remote (Dev.tc n : Thread nD τ) (b : Memref sig (Dev.tc n : Thread nD τ).2.kind .hbm S32x512 .f32) (.dma p) hsc)}
    {α : Type} {Q : α → sProp 𝕄} {kt : PUnit → Prog (TpuEff nD τ sig (Elt F) Λ₀ .tc) α} :
    iprop(records sw m K ∗ A ∗ outAny n c k ∗ ow c (O + tallyAt (dcell i₂ n k) () N) ∗ tok i₁ c k ∗ tok i₂ n k)
      ⊢ iprop(((crd i₁ c k ∗ ow c O) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma a (.remote (Dev.tc n : Thread nD τ) b (.dma p) hsc) (.dma q) hsrc hdst hsem) kt) Q) := by
  subst hp; subst hq
  obtain ⟨fs, hA, h₁, hf⟩ := hE
  unfold ow outAny
  iintro ⟨#HR, Hin, ⟨%f, Hout⟩, ⟨%W, HO⟩, Ht0, Ht1⟩ Hk
  obtain ⟨fd, hB, h₂⟩ := hf f
  ihave #HI0 := (records_inv sw m K (c, .inr (i₁, k))) $$ HR
  ihave #HI1 := (records_inv sw m K (n, .inr (i₂, k))) $$ HR
  ihave #Hr0 := (records_reached sw m K (c, .inr (i₁, k))) $$ HR
  ihave #Hr1 := (records_reached sw m K (n, .inr (i₂, k))) $$ HR
  iapply (Rounds.wp_send_pointsTo 𝒱₀ ER (sched sw m) (c : Thread nD τ) none (κ₁ := K (c, .inr (i₁, k))) (κ₂ := K (n, .inr (i₂, k)))
    (r₁ := 0) (r₂ := 0) (d₁ := false) (d₂ := false) (fs := fs) (fd := fd)
    (by rw [duties_move]; exact Finset.mem_singleton_self _) (by rw [duties_move]; exact Finset.mem_singleton_self _)
    () () N hN (amount_move sw m i₁ c k false) (amount_move sw m i₂ n k false) O rfl (W := W) h₁ h₂) $$ [Hin Hout HO Ht0 Ht1]
  · isplitr; · iexact HI0
    isplitr; · iexact HI1
    isplitl [Hin]; · iapply hA; iexact Hin
    isplitl [Hout]; · iapply hB; iexact Hout
    isplitl [HO]; · iexact HO
    isplitl [Ht0]; · iexact Ht0
    isplitr; · iexact Hr0
    isplitl [Ht1]; · iexact Ht1
    iexact Hr1
  iintro ⟨Hc, HO⟩
  iapply Hk
  isplitl [Hc]; · iexact Hc
  iexists W; iexact HO

section Ops

variable (c : Dev nD) (k : Fin 8) (f f' : Fin 8 → ℕ)

/-- Block `k` is sent along x. -/
theorem step_xsend (n : Dev nD) (hn : n = px sw c) (hk : f k = 0) (hf : f' = Function.update f k 1)
    {a b : Memref sig .tc .hbm S32x512 .f32} (ha : a = inM c k) (hb : b = outM c k) {p q : DmaSem sig} (hp : p = dsem 0 k) (hq : q = dsem 1 k)
    {hsc : (b : Memref sig (Dev.tc n : Thread nD τ).2.kind .hbm S32x512 .f32).view.ref.isScScratch = false}
    {hsrc : a.view.WordExact} {hdst : b.view.WordExact}
    {hsem : DmaTarget.Typed .hbm (.dma q) (.remote (Dev.tc n : Thread nD τ) (b : Memref sig (Dev.tc n : Thread nD τ).2.kind .hbm S32x512 .f32) (.dma p) hsc)}
    {α : Type} {Q : α → sProp 𝕄} {kt : PUnit → Prog (TpuEff nD τ sig (Elt F) Λ₀ .tc) α} :
    iprop(records sw m K ∗ St sw m c f)
      ⊢ iprop((St sw m c f' -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma a (.remote (Dev.tc n : Thread nD τ) b (.dma p) hsc) (.dma q) hsrc hdst hsem) kt) Q) := by
  subst hn
  unfold St
  rw [chunks_at sw m c f k 0 hk, chunks_next sw m c f f' k 1 hf, due_x sw c f f' k hk hf]
  simp only [Chunk]
  iintro ⟨#HR, ⟨⟨⟨Hin, Hout, Ht0, Ht1⟩, Hrest⟩, Hall⟩, HO⟩ Hk
  iapply (send_move sw m K c (px sw c) 0 1 k (due sw c f') (ends_x sw m c k ha hb) hp hq (amount_eq c k hb q)) $$ [Hin Hout HO Ht0 Ht1]
  · isplitr; · iexact HR
    isplitl [Hin]; · iexact Hin
    isplitl [Hout]; · iexact Hout
    isplitl [HO]; · iexact HO
    isplitl [Ht0] <;> iassumption
  iintro ⟨Hc, HO⟩
  iapply Hk
  isplitr [HO]
  · isplitr [Hall]
    · isplitl [Hc]; · iexact Hc
      iexact Hrest
    iexact Hall
  iexact HO

/-- Block `k`, as received along x, is sent on along y. -/
theorem step_ysend (n : Dev nD) (hn : n = py c) (hk : f k = 2) (hf : f' = Function.update f k 3)
    {a b : Memref sig .tc .hbm S32x512 .f32} (ha : a = outM c k) (hb : b = outM c k) {p q : DmaSem sig} (hp : p = dsem 2 k) (hq : q = dsem 3 k)
    {hsc : (b : Memref sig (Dev.tc n : Thread nD τ).2.kind .hbm S32x512 .f32).view.ref.isScScratch = false}
    {hsrc : a.view.WordExact} {hdst : b.view.WordExact}
    {hsem : DmaTarget.Typed .hbm (.dma q) (.remote (Dev.tc n : Thread nD τ) (b : Memref sig (Dev.tc n : Thread nD τ).2.kind .hbm S32x512 .f32) (.dma p) hsc)}
    {α : Type} {Q : α → sProp 𝕄} {kt : PUnit → Prog (TpuEff nD τ sig (Elt F) Λ₀ .tc) α} :
    iprop(records sw m K ∗ St sw m c f)
      ⊢ iprop((St sw m c f' -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma a (.remote (Dev.tc n : Thread nD τ) b (.dma p) hsc) (.dma q) hsrc hdst hsem) kt) Q) := by
  subst hn
  unfold St
  rw [chunks_at sw m c f k 2 hk, chunks_next sw m c f f' k 3 hf, due_y sw c f f' k hk hf]
  simp only [Chunk]
  iintro ⟨#HR, ⟨⟨Hdone, ⟨Hin, Hout, Ht0, Ht1⟩, Hp2, Hrest⟩, Hall⟩, HO⟩ Hk
  iapply (send_move sw m K c (py c) 2 3 k (due sw c f') (ends_y sw m c k ha hb) hp hq (amount_eq c k hb q)) $$ [Hin Hout HO Ht0 Ht1]
  · isplitr; · iexact HR
    isplitl [Hin]; · iexact Hin
    isplitl [Hout]; · iexact Hout
    isplitl [HO]; · iexact HO
    isplitl [Ht0] <;> iassumption
  iintro ⟨Hc, HO⟩
  iapply Hk
  isplitr [HO]
  · isplitr [Hall]
    · isplitl [Hdone]; · iexact Hdone
      isplitr [Hrest]
      · isplitl [Hc]; · iexact Hc
        iexact Hp2
      iexact Hrest
    iexact Hall
  iexact HO

variable {sp sp' : Space} {s s' : Shape} {e e' : EltTy} {q : DmaSem sig}
  {a : Memref sig .tc sp' s' e'} {κ' : Kind} {b : Memref sig κ' sp s e} {ha : a.view.WordExact} {hb : b.view.WordExact}

/-- The block arriving along x is waited for. -/
theorem step_xin (hk : f k = 1) (hf : f' = Function.update f k 2) (hall : ∀ k, 1 ≤ f k) (hq : q = dsem 1 k) (hN : b.view.dmaCredit = N)
    {α : Type} {Q : α → sProp 𝕄} {kt : PUnit → Prog (TpuEff nD τ sig (Elt F) Λ₀ .tc) α} :
    iprop(records sw m K ∗ St sw m c f)
      ⊢ iprop((St sw m c f' -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 q a b ha hb) kt) Q) := by
  unfold St
  rw [chunks_at sw m c f k 1 hk, chunks_next sw m c f f' k 2 hf, ← due_same sw c f f' k 1 (.inl rfl) hk hf]
  simp only [Chunk]
  iintro ⟨#HR, ⟨⟨Hc0, Hp0, ⟨Hp, Hc⟩, Hy, Hrest⟩, Hall⟩, HO⟩ Hk
  iapply (wait_move sw m K c 1 k (due sw c f) hq hN (mayWait_xin sw c f k hall)) $$ [Hc Hp HO]
  · isplitr; · iexact HR
    isplitl [Hc]; · iexact Hc
    isplitl [Hp]; · iexact Hp
    iexact HO
  iintro ⟨Hpay, Hz, HO⟩
  iapply Hk
  isplitr [HO]
  · isplitr [Hall]
    · isplitl [Hc0 Hp0 Hz]
      · isplitl [Hc0]; · iexact Hc0
        isplitl [Hp0] <;> iassumption
      isplitl [Hpay Hy]
      · isplitl [Hpay]
        · unfold movePay; iexact Hpay
        iexact Hy
      iexact Hrest
    iexact Hall
  iexact HO

/-- The block arriving along y is waited for. -/
theorem step_yin (hk : f k = 3) (hf : f' = Function.update f k 4) (hall : ∀ k, 3 ≤ f k) (hq : q = dsem 3 k) (hN : b.view.dmaCredit = N)
    {α : Type} {Q : α → sProp 𝕄} {kt : PUnit → Prog (TpuEff nD τ sig (Elt F) Λ₀ .tc) α} :
    iprop(records sw m K ∗ St sw m c f)
      ⊢ iprop((St sw m c f' -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 q a b ha hb) kt) Q) := by
  unfold St
  rw [chunks_at sw m c f k 3 hk, chunks_next sw m c f f' k 4 hf, ← due_same sw c f f' k 3 (.inr (le_refl _)) hk hf]
  simp only [Chunk]
  iintro ⟨#HR, ⟨⟨⟨Hc0, Hp0, Hz1⟩, H2, Hp, Hc⟩, Hall⟩, HO⟩ Hk
  iapply (wait_move sw m K c 3 k (due sw c f) hq hN (mayWait_done sw c f _ hall)) $$ [Hc Hp HO]
  · isplitr; · iexact HR
    isplitl [Hc]; · iexact Hc
    isplitl [Hp]; · iexact Hp
    iexact HO
  iintro ⟨Hpay, Hz, HO⟩
  iapply Hk
  isplitr [HO]
  · isplitr [Hall]
    · isplitl [Hc0 Hp0]
      · isplitl [Hc0] <;> iassumption
      isplitl [Hz1]; · iexact Hz1
      isplitl [H2]; · iexact H2
      isplitl [Hz]; · iexact Hz
      unfold movePay; iexact Hpay
    iexact Hall
  iexact HO

/-- The send along x is waited for. -/
theorem step_xdone (hk : f k = 4) (hf : f' = Function.update f k 5) (hall : ∀ k, 3 ≤ f k) (hq : q = dsem 0 k) (hN : b.view.dmaCredit = N)
    {α : Type} {Q : α → sProp 𝕄} {kt : PUnit → Prog (TpuEff nD τ sig (Elt F) Λ₀ .tc) α} :
    iprop(records sw m K ∗ St sw m c f)
      ⊢ iprop((St sw m c f' -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 q a b ha hb) kt) Q) := by
  unfold St
  rw [chunks_at sw m c f k 4 hk, chunks_next sw m c f f' k 5 hf, ← due_same sw c f f' k 4 (.inr (by decide)) hk hf]
  simp only [Chunk]
  iintro ⟨#HR, ⟨⟨⟨Hc, Hp⟩, Hz1, Hrest⟩, Hall⟩, HO⟩ Hk
  iapply (wait_move sw m K c 0 k (due sw c f) hq hN (mayWait_done sw c f _ hall)) $$ [Hc Hp HO]
  · isplitr; · iexact HR
    isplitl [Hc]; · iexact Hc
    isplitl [Hp]; · iexact Hp
    iexact HO
  iintro ⟨Hpay, Hz, HO⟩
  iapply Hk
  isplitr [HO]
  · isplitr [Hall]
    · isplitr [Hrest]
      · isplitl [Hpay]
        · unfold movePay; iexact Hpay
        isplitl [Hz] <;> iassumption
      iexact Hrest
    iexact Hall
  iexact HO

/-- The send along y is waited for. -/
theorem step_ydone (hk : f k = 5) (hf : f' = Function.update f k 6) (hall : ∀ k, 3 ≤ f k) (hq : q = dsem 2 k) (hN : b.view.dmaCredit = N)
    {α : Type} {Q : α → sProp 𝕄} {kt : PUnit → Prog (TpuEff nD τ sig (Elt F) Λ₀ .tc) α} :
    iprop(records sw m K ∗ St sw m c f)
      ⊢ iprop((St sw m c f' -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 q a b ha hb) kt) Q) := by
  unfold St
  rw [chunks_at sw m c f k 5 hk, chunks_next sw m c f f' k 6 hf, ← due_same sw c f f' k 5 (.inr (by decide)) hk hf]
  simp only [Chunk]
  iintro ⟨#HR, ⟨⟨H0, ⟨Hc, Hp⟩, Hrest⟩, Hall⟩, HO⟩ Hk
  iapply (wait_move sw m K c 2 k (due sw c f) hq hN (mayWait_done sw c f _ hall)) $$ [Hc Hp HO]
  · isplitr; · iexact HR
    isplitl [Hc]; · iexact Hc
    isplitl [Hp]; · iexact Hp
    iexact HO
  iintro ⟨Hpay, Hz, HO⟩
  iapply Hk
  isplitr [HO]
  · isplitr [Hall]
    · isplitl [H0]; · iexact H0
      isplitr [Hrest]
      · isplitl [Hpay]
        · unfold movePay; iexact Hpay
        iexact Hz
      iexact Hrest
    iexact Hall
  iexact HO

end Ops

end Cert.KernelIdealProof

end
-- ==== Proof.KernelIdeal.Parts.lean ====
/-
The body after the barrier, part by part.

The 48 operations go through the blocks in a fixed order: all eight blocks are sent along x; block after block, the
arrival along x is waited for and the block sent on along y; the eight arrivals along y are waited for; block after
block, the two sends are waited for. `stg n` says how many steps each block has passed after `n` operations. Each part
of the body takes `St c (stg a)` to `St c (stg b)`.
-/
module

public import proofs.«01_k».proof.Proof.KernelIdeal.Steps

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (sw : Bool) (m : (ℓ : Loc nD τ sig) → Buf (Elt F) ℓ) (K : Dev nD × CI → ℕ) (c : Dev nD)

/-- The steps block `k` has passed after `n` operations. -/
def stg (n : ℕ) (k : Fin 8) : ℕ :=
  (if k.val < n then 1 else 0) + (if 8 + 2 * k.val < n then 1 else 0) + (if 9 + 2 * k.val < n then 1 else 0)
    + (if 24 + k.val < n then 1 else 0) + (if 32 + 2 * k.val < n then 1 else 0) + (if 33 + 2 * k.val < n then 1 else 0)

/-- The body's program on device `c`, from operation `a` to operation `b`, returning anything. -/
def Runs {α : Type} (a b : ℕ) (p : Prog (TpuEff nD τ sig (Elt F) Λ₀ .tc) α) : Prop :=
  ∀ Q : α → sProp 𝕄, iprop(records sw m K ∗ St sw m c (stg a))
    ⊢ iprop((∀ v, St sw m c (stg b) -∗ Q v) -∗ wp frame (wpE (defs₀ (F := F)) 𝒱₀ (c : Thread nD τ) none) Set.univ p Q)

abbrev piM : Memref sig .tc .smem S2 .i32 := Memref.whole cc0_stg0_0
abbrev xM : Memref sig .tc .hbm S1x512x512 .f32 := Memref.whole main_arg0
abbrev oM : Memref sig .tc .hbm S1x512x512 .f32 := Memref.whole main_v1
theorem hpi : piM.IsWhole := Memref.isWhole_whole _
theorem hx : xM.IsWhole := Memref.isWhole_whole _
theorem ho : oM.IsWhole := Memref.isWhole_whole _

/-- The same block of the other half of the rows. -/
abbrev otherM (k : Fin 8) : Memref sig .tc .hbm S32x512 .f32 :=
  ((Memref.whole main_v1).slice (Rect.unit (s := S1x512x512) (k0_off3 c (BitVec.ofNat 32 (32 * k.val))) S1x32x512.size (k0_off3_inb c k)) (fun _ => rfl)).squeeze S32x512 squeezes_S1x32x512_S32x512

theorem credit_out (k : Fin 8) : (outM c k).view.dmaCredit = N := rfl
theorem credit_in (k : Fin 8) : (inM c k).view.dmaCredit = N := rfl
theorem credit_other (k : Fin 8) : (otherM c k).view.dmaCredit = N := rfl

theorem part2 (v5 v8 v12 c8_i32_19 : BitVec 32) (hw : k0_chk1 c (word sw c)) :
    Runs sw m K c 0 2 (k0_part2 (F := F) piM hpi xM hx oM ho cc0_scratch0 cc0_scratch1 cc0_scratch2 cc0_scratch3 c v5 v8 (word sw c) hw v12 c8_i32_19) := by
  intro Q
  simp only [k0_part2_eq_skeleton]; unfold k0_part2_skel
  simp only [Prog.lift, Prog.bind_op, Prog.bind_ret, Prog.pure_eq_ret]
  iintro ⟨#HR, H⟩ Hk
  iapply (step_xsend sw m K c 0 (stg 0) (stg 1) _ (Fin.ext (dev3_px sw c)) (by decide) (by decide) rfl rfl rfl rfl) $$ [H]
  · isplitr <;> iassumption
  iintro H
  iapply (step_xsend sw m K c 1 (stg 1) (stg 2) _ (Fin.ext (dev4_px sw c)) (by decide) (by decide) rfl rfl rfl rfl) $$ [H]
  · isplitr <;> iassumption
  iintro H
  rw [wp_ret]; imodintro
  iapply Hk $$ H

theorem part3 (v5 v8 v12 v61 : BitVec 32) (hw : k0_chk1 c (word sw c)) :
    Runs sw m K c 2 4 (k0_part3 (F := F) piM hpi xM hx oM ho cc0_scratch0 cc0_scratch1 cc0_scratch2 cc0_scratch3 c v5 v8 (word sw c) hw v12 v61) := by
  intro Q
  simp only [k0_part3_eq_skeleton]; unfold k0_part3_skel
  simp only [Prog.lift, Prog.bind_op, Prog.bind_ret, Prog.pure_eq_ret]
  iintro ⟨#HR, H⟩ Hk
  iapply (step_xsend sw m K c 2 (stg 2) (stg 3) _ (Fin.ext (dev5_px sw c)) (by decide) (by decide) rfl rfl rfl rfl) $$ [H]
  · isplitr <;> iassumption
  iintro H
  iapply (step_xsend sw m K c 3 (stg 3) (stg 4) _ (Fin.ext (dev6_px sw c)) (by decide) (by decide) rfl rfl rfl rfl) $$ [H]
  · isplitr <;> iassumption
  iintro H
  rw [wp_ret]; imodintro
  iapply Hk $$ H

theorem part4 (v5 v8 v12 : BitVec 32) (hw : k0_chk1 c (word sw c)) :
    Runs sw m K c 4 6 (k0_part4 (F := F) piM hpi xM hx oM ho cc0_scratch0 cc0_scratch1 cc0_scratch2 cc0_scratch3 c v5 v8 (word sw c) hw v12) := by
  intro Q
  simp only [k0_part4_eq_skeleton]; unfold k0_part4_skel
  simp only [Prog.lift, Prog.bind_op, Prog.bind_ret, Prog.pure_eq_ret]
  iintro ⟨#HR, H⟩ Hk
  iapply (step_xsend sw m K c 4 (stg 4) (stg 5) _ (Fin.ext (dev7_px sw c)) (by decide) (by decide) rfl rfl rfl rfl) $$ [H]
  · isplitr <;> iassumption
  iintro H
  iapply (step_xsend sw m K c 5 (stg 5) (stg 6) _ (Fin.ext (dev8_px sw c)) (by decide) (by decide) rfl rfl rfl rfl) $$ [H]
  · isplitr <;> iassumption
  iintro H
  rw [wp_ret]; imodintro
  iapply Hk $$ H

theorem part5 (v2 v5 v8 v12 : BitVec 32) (hw : k0_chk1 c (word sw c)) :
    Runs sw m K c 6 9 (k0_part5 (F := F) piM hpi xM hx oM ho cc0_scratch0 cc0_scratch1 cc0_scratch2 cc0_scratch3 c v2 v5 v8 (word sw c) hw v12) := by
  intro Q
  simp only [k0_part5_eq_skeleton]; unfold k0_part5_skel
  simp only [Prog.lift, Prog.bind_op, Prog.bind_ret, Prog.pure_eq_ret]
  iintro ⟨#HR, H⟩ Hk
  iapply (step_xsend sw m K c 6 (stg 6) (stg 7) _ (Fin.ext (dev9_px sw c)) (by decide) (by decide) rfl rfl rfl rfl) $$ [H]
  · isplitr <;> iassumption
  iintro H
  iapply (step_xsend sw m K c 7 (stg 7) (stg 8) _ (Fin.ext (dev10_px sw c)) (by decide) (by decide) rfl rfl rfl rfl) $$ [H]
  · isplitr <;> iassumption
  iintro H
  iapply (step_xin sw m K c 0 (stg 8) (stg 9) (by decide) (by decide) (by decide) rfl (credit_out c 0)) $$ [H]
  · isplitr <;> iassumption
  iintro H
  rw [wp_ret]; imodintro
  iapply Hk $$ H

theorem part6 (v2 v5 v8 v11 v12 v160 : BitVec 32) :
    Runs sw m K c 9 11 (k0_part6 (F := F) piM hpi xM hx oM ho cc0_scratch0 cc0_scratch1 cc0_scratch2 cc0_scratch3 c v2 v5 v8 (word sw c) v11 v12 v160) := by
  intro Q
  simp only [k0_part6_eq_skeleton]; unfold k0_part6_skel
  simp only [Prog.lift, Prog.bind_op, Prog.bind_ret, Prog.pure_eq_ret]
  iintro ⟨#HR, H⟩ Hk
  iapply (step_ysend sw m K c 0 (stg 9) (stg 10) _ (Fin.ext (k0_dev11_eq c)) (by decide) (by decide) rfl rfl rfl rfl) $$ [H]
  · isplitr <;> iassumption
  iintro H
  iapply (step_xin sw m K c 1 (stg 10) (stg 11) (by decide) (by decide) (by decide) rfl (credit_out c 1)) $$ [H]
  · isplitr <;> iassumption
  iintro H
  rw [wp_ret]; imodintro
  iapply Hk $$ H

theorem part7 (v2 v5 v8 v11 v12 : BitVec 32) :
    Runs sw m K c 11 14 (k0_part7 (F := F) piM hpi xM hx oM ho cc0_scratch0 cc0_scratch1 cc0_scratch2 cc0_scratch3 c v2 v5 v8 (word sw c) v11 v12) := by
  intro Q
  simp only [k0_part7_eq_skeleton]; unfold k0_part7_skel
  simp only [Prog.lift, Prog.bind_op, Prog.bind_ret, Prog.pure_eq_ret]
  iintro ⟨#HR, H⟩ Hk
  iapply (step_ysend sw m K c 1 (stg 11) (stg 12) _ (Fin.ext (k0_dev12_eq c)) (by decide) (by decide) rfl rfl rfl rfl) $$ [H]
  · isplitr <;> iassumption
  iintro H
  iapply (step_xin sw m K c 2 (stg 12) (stg 13) (by decide) (by decide) (by decide) rfl (credit_out c 2)) $$ [H]
  · isplitr <;> iassumption
  iintro H
  iapply (step_ysend sw m K c 2 (stg 13) (stg 14) _ (Fin.ext (k0_dev13_eq c)) (by decide) (by decide) rfl rfl rfl rfl) $$ [H]
  · isplitr <;> iassumption
  iintro H
  rw [wp_ret]; imodintro
  iapply Hk $$ H

theorem part8 (v2 v5 v8 v11 v12 : BitVec 32) :
    Runs sw m K c 14 16 (k0_part8 (F := F) piM hpi xM hx oM ho cc0_scratch0 cc0_scratch1 cc0_scratch2 cc0_scratch3 c v2 v5 v8 (word sw c) v11 v12) := by
  intro Q
  simp only [k0_part8_eq_skeleton]; unfold k0_part8_skel
  simp only [Prog.lift, Prog.bind_op, Prog.bind_ret, Prog.pure_eq_ret]
  iintro ⟨#HR, H⟩ Hk
  iapply (step_xin sw m K c 3 (stg 14) (stg 15) (by decide) (by decide) (by decide) rfl (credit_out c 3)) $$ [H]
  · isplitr <;> iassumption
  iintro H
  iapply (step_ysend sw m K c 3 (stg 15) (stg 16) _ (Fin.ext (k0_dev14_eq c)) (by decide) (by decide) rfl rfl rfl rfl) $$ [H]
  · isplitr <;> iassumption
  iintro H
  rw [wp_ret]; imodintro
  iapply Hk $$ H

theorem part9 (v2 v5 v8 v11 v12 v258 : BitVec 32) :
    Runs sw m K c 16 18 (k0_part9 (F := F) piM hpi xM hx oM ho cc0_scratch0 cc0_scratch1 cc0_scratch2 cc0_scratch3 c v2 v5 v8 (word sw c) v11 v12 v258) := by
  intro Q
  simp only [k0_part9_eq_skeleton]; unfold k0_part9_skel
  simp only [Prog.lift, Prog.bind_op, Prog.bind_ret, Prog.pure_eq_ret]
  iintro ⟨#HR, H⟩ Hk
  iapply (step_xin sw m K c 4 (stg 16) (stg 17) (by decide) (by decide) (by decide) rfl (credit_out c 4)) $$ [H]
  · isplitr <;> iassumption
  iintro H
  iapply (step_ysend sw m K c 4 (stg 17) (stg 18) _ (Fin.ext (k0_dev15_eq c)) (by decide) (by decide) rfl rfl rfl rfl) $$ [H]
  · isplitr <;> iassumption
  iintro H
  rw [wp_ret]; imodintro
  iapply Hk $$ H

theorem part10 (v2 v5 v8 v11 v12 : BitVec 32) :
    Runs sw m K c 18 21 (k0_part10 (F := F) piM hpi xM hx oM ho cc0_scratch0 cc0_scratch1 cc0_scratch2 cc0_scratch3 c v2 v5 v8 (word sw c) v11 v12) := by
  intro Q
  simp only [k0_part10_eq_skeleton]; unfold k0_part10_skel
  simp only [Prog.lift, Prog.bind_op, Prog.bind_ret, Prog.pure_eq_ret]
  iintro ⟨#HR, H⟩ Hk
  iapply (step_xin sw m K c 5 (stg 18) (stg 19) (by decide) (by decide) (by decide) rfl (credit_out c 5)) $$ [H]
  · isplitr <;> iassumption
  iintro H
  iapply (step_ysend sw m K c 5 (stg 19) (stg 20) _ (Fin.ext (k0_dev16_eq c)) (by decide) (by decide) rfl rfl rfl rfl) $$ [H]
  · isplitr <;> iassumption
  iintro H
  iapply (step_xin sw m K c 6 (stg 20) (stg 21) (by decide) (by decide) (by decide) rfl (credit_out c 6)) $$ [H]
  · isplitr <;> iassumption
  iintro H
  rw [wp_ret]; imodintro
  iapply Hk $$ H

theorem part11 (v2 v5 v8 v11 v12 v322 : BitVec 32) :
    Runs sw m K c 21 23 (k0_part11 (F := F) piM hpi xM hx oM ho cc0_scratch0 cc0_scratch1 cc0_scratch2 cc0_scratch3 c v2 v5 v8 (word sw c) v11 v12 v322) := by
  intro Q
  simp only [k0_part11_eq_skeleton]; unfold k0_part11_skel
  simp only [Prog.lift, Prog.bind_op, Prog.bind_ret, Prog.pure_eq_ret]
  iintro ⟨#HR, H⟩ Hk
  iapply (step_ysend sw m K c 6 (stg 21) (stg 22) _ (Fin.ext (k0_dev17_eq c)) (by decide) (by decide) rfl rfl rfl rfl) $$ [H]
  · isplitr <;> iassumption
  iintro H
  iapply (step_xin sw m K c 7 (stg 22) (stg 23) (by decide) (by decide) (by decide) rfl (credit_out c 7)) $$ [H]
  · isplitr <;> iassumption
  iintro H
  rw [wp_ret]; imodintro
  iapply Hk $$ H

theorem part12 (v2 v8 v11 v13 : BitVec 32) :
    Runs sw m K c 23 26 (k0_part12 (F := F) piM hpi xM hx oM ho cc0_scratch0 cc0_scratch1 cc0_scratch2 cc0_scratch3 c v2 v8 v11 v13) := by
  intro Q
  simp only [k0_part12_eq_skeleton]; unfold k0_part12_skel
  simp only [Prog.lift, Prog.bind_op, Prog.bind_ret, Prog.pure_eq_ret]
  iintro ⟨#HR, H⟩ Hk
  iapply (step_ysend sw m K c 7 (stg 23) (stg 24) _ (Fin.ext (k0_dev18_eq c)) (by decide) (by decide) rfl rfl rfl rfl) $$ [H]
  · isplitr <;> iassumption
  iintro H
  iapply (step_yin sw m K c 0 (stg 24) (stg 25) (by decide) (by decide) (by decide) rfl (credit_other c 0)) $$ [H]
  · isplitr <;> iassumption
  iintro H
  iapply (step_yin sw m K c 1 (stg 25) (stg 26) (by decide) (by decide) (by decide) rfl (credit_other c 1)) $$ [H]
  · isplitr <;> iassumption
  iintro H
  rw [wp_ret]; imodintro
  iapply Hk $$ H

theorem part13 (v2 v8 v11 v13 c64_i32_281 : BitVec 32) :
    Runs sw m K c 26 28 (k0_part13 (F := F) piM hpi xM hx oM ho cc0_scratch0 cc0_scratch1 cc0_scratch2 cc0_scratch3 c v2 v8 v11 v13 c64_i32_281) := by
  intro Q
  simp only [k0_part13_eq_skeleton]; unfold k0_part13_skel
  simp only [Prog.lift, Prog.bind_op, Prog.bind_ret, Prog.pure_eq_ret]
  iintro ⟨#HR, H⟩ Hk
  iapply (step_yin sw m K c 2 (stg 26) (stg 27) (by decide) (by decide) (by decide) rfl (credit_other c 2)) $$ [H]
  · isplitr <;> iassumption
  iintro H
  iapply (step_yin sw m K c 3 (stg 27) (stg 28) (by decide) (by decide) (by decide) rfl (credit_other c 3)) $$ [H]
  · isplitr <;> iassumption
  iintro H
  rw [wp_ret]; imodintro
  iapply Hk $$ H

theorem part14 (v2 v8 v11 v13 v417 c4_i32_310 : BitVec 32) :
    Runs sw m K c 28 30 (k0_part14 (F := F) piM hpi xM hx oM ho cc0_scratch0 cc0_scratch1 cc0_scratch2 cc0_scratch3 c v2 v8 v11 v13 v417 c4_i32_310) := by
  intro Q
  simp only [k0_part14_eq_skeleton]; unfold k0_part14_skel
  simp only [Prog.lift, Prog.bind_op, Prog.bind_ret, Prog.pure_eq_ret]
  iintro ⟨#HR, H⟩ Hk
  iapply (step_yin sw m K c 4 (stg 28) (stg 29) (by decide) (by decide) (by decide) rfl (credit_other c 4)) $$ [H]
  · isplitr <;> iassumption
  iintro H
  iapply (step_yin sw m K c 5 (stg 29) (stg 30) (by decide) (by decide) (by decide) rfl (credit_other c 5)) $$ [H]
  · isplitr <;> iassumption
  iintro H
  rw [wp_ret]; imodintro
  iapply Hk $$ H

theorem part15 (v2 v8 v11 v13 : BitVec 32) :
    Runs sw m K c 30 34 (k0_part15 (F := F) piM hpi xM hx oM ho cc0_scratch0 cc0_scratch1 cc0_scratch2 cc0_scratch3 c v2 v8 v11 v13) := by
  intro Q
  simp only [k0_part15_eq_skeleton]; unfold k0_part15_skel
  simp only [Prog.lift, Prog.bind_op, Prog.bind_ret, Prog.pure_eq_ret]
  iintro ⟨#HR, H⟩ Hk
  iapply (step_yin sw m K c 6 (stg 30) (stg 31) (by decide) (by decide) (by decide) rfl (credit_other c 6)) $$ [H]
  · isplitr <;> iassumption
  iintro H
  iapply (step_yin sw m K c 7 (stg 31) (stg 32) (by decide) (by decide) (by decide) rfl (credit_other c 7)) $$ [H]
  · isplitr <;> iassumption
  iintro H
  iapply (step_xdone sw m K c 0 (stg 32) (stg 33) (by decide) (by decide) (by decide) rfl (credit_in c 0)) $$ [H]
  · isplitr <;> iassumption
  iintro H
  iapply (step_ydone sw m K c 0 (stg 33) (stg 34) (by decide) (by decide) (by decide) rfl (credit_out c 0)) $$ [H]
  · isplitr <;> iassumption
  iintro H
  rw [wp_ret]; imodintro
  iapply Hk $$ H

theorem part16 :
    Runs sw m K c 34 38 (k0_part16 (F := F) piM hpi xM hx oM ho cc0_scratch0 cc0_scratch1 cc0_scratch2 cc0_scratch3 c) := by
  intro Q
  simp only [k0_part16_eq_skeleton]; unfold k0_part16_skel
  simp only [Prog.lift, Prog.bind_op, Prog.bind_ret, Prog.pure_eq_ret]
  iintro ⟨#HR, H⟩ Hk
  iapply (step_xdone sw m K c 1 (stg 34) (stg 35) (by decide) (by decide) (by decide) rfl (credit_in c 1)) $$ [H]
  · isplitr <;> iassumption
  iintro H
  iapply (step_ydone sw m K c 1 (stg 35) (stg 36) (by decide) (by decide) (by decide) rfl (credit_out c 1)) $$ [H]
  · isplitr <;> iassumption
  iintro H
  iapply (step_xdone sw m K c 2 (stg 36) (stg 37) (by decide) (by decide) (by decide) rfl (credit_in c 2)) $$ [H]
  · isplitr <;> iassumption
  iintro H
  iapply (step_ydone sw m K c 2 (stg 37) (stg 38) (by decide) (by decide) (by decide) rfl (credit_out c 2)) $$ [H]
  · isplitr <;> iassumption
  iintro H
  rw [wp_ret]; imodintro
  iapply Hk $$ H

theorem part17 :
    Runs sw m K c 38 42 (k0_part17 (F := F) piM hpi xM hx oM ho cc0_scratch0 cc0_scratch1 cc0_scratch2 cc0_scratch3 c) := by
  intro Q
  simp only [k0_part17_eq_skeleton]; unfold k0_part17_skel
  simp only [Prog.lift, Prog.bind_op, Prog.bind_ret, Prog.pure_eq_ret]
  iintro ⟨#HR, H⟩ Hk
  iapply (step_xdone sw m K c 3 (stg 38) (stg 39) (by decide) (by decide) (by decide) rfl (credit_in c 3)) $$ [H]
  · isplitr <;> iassumption
  iintro H
  iapply (step_ydone sw m K c 3 (stg 39) (stg 40) (by decide) (by decide) (by decide) rfl (credit_out c 3)) $$ [H]
  · isplitr <;> iassumption
  iintro H
  iapply (step_xdone sw m K c 4 (stg 40) (stg 41) (by decide) (by decide) (by decide) rfl (credit_in c 4)) $$ [H]
  · isplitr <;> iassumption
  iintro H
  iapply (step_ydone sw m K c 4 (stg 41) (stg 42) (by decide) (by decide) (by decide) rfl (credit_out c 4)) $$ [H]
  · isplitr <;> iassumption
  iintro H
  rw [wp_ret]; imodintro
  iapply Hk $$ H

theorem part18 :
    Runs sw m K c 42 47 (k0_part18 (F := F) piM hpi xM hx oM ho cc0_scratch0 cc0_scratch1 cc0_scratch2 cc0_scratch3 c) := by
  intro Q
  simp only [k0_part18_eq_skeleton]; unfold k0_part18_skel
  simp only [Prog.lift, Prog.bind_op, Prog.bind_ret, Prog.pure_eq_ret]
  iintro ⟨#HR, H⟩ Hk
  iapply (step_xdone sw m K c 5 (stg 42) (stg 43) (by decide) (by decide) (by decide) rfl (credit_in c 5)) $$ [H]
  · isplitr <;> iassumption
  iintro H
  iapply (step_ydone sw m K c 5 (stg 43) (stg 44) (by decide) (by decide) (by decide) rfl (credit_out c 5)) $$ [H]
  · isplitr <;> iassumption
  iintro H
  iapply (step_xdone sw m K c 6 (stg 44) (stg 45) (by decide) (by decide) (by decide) rfl (credit_in c 6)) $$ [H]
  · isplitr <;> iassumption
  iintro H
  iapply (step_ydone sw m K c 6 (stg 45) (stg 46) (by decide) (by decide) (by decide) rfl (credit_out c 6)) $$ [H]
  · isplitr <;> iassumption
  iintro H
  iapply (step_xdone sw m K c 7 (stg 46) (stg 47) (by decide) (by decide) (by decide) rfl (credit_in c 7)) $$ [H]
  · isplitr <;> iassumption
  iintro H
  rw [wp_ret]; imodintro
  iapply Hk $$ H

end Cert.KernelIdealProof

end
-- ==== Proof.KernelIdeal.Body.lean ====
/-
The whole body on one device.

It reads its table entry, gives its two neighbours leave to write and waits for theirs, then runs the 48 operations.
`Before c` is what device `c` starts with; at the end every block has passed its six steps.
-/
module

public import proofs.«01_k».proof.Proof.KernelIdeal.Parts

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (sw : Bool) (m : (ℓ : Loc nD τ sig) → Buf (Elt F) ℓ) (K : Dev nD × CI → ℕ) (c : Dev nD)

/-! ## The table -/

/-- The entry device `c` reads: number `x` of its table, `x` its first coordinate. -/
def entryIx (c : Dev nD) : S2.Idx := fun a => ⟨c.val / 8, by have := c.isLt; fin_cases a; show c.val / 8 < 2; have : c.val < 16 := c.isLt; omega⟩

/-- What is asked of the memory at launch: that entry is `word sw c` on every device. -/
def TabOK : Prop := ∀ c : Dev nD, (m ((c : Thread nD τ).loc main_arg1) : IVec S2 32) (entryIx c) = word sw c

/-- The table as staged. -/
def tab (c : Dev nD) : (cc0_stg0_0 : Ref sig .tc).ty.Contents (Elt F) :=
  (win0_0.blk (0 : Fin 1)).view.read (Elt F) (m ((c : Thread nD τ).loc main_arg1))

abbrev entryRect (c : Dev nD) : Rect S2 := Rect.unit (s := S2) (k0_off1 c) S1.size (k0_off1_inb c)

/-- The body's load of it is the table's entry. -/
theorem read_tab (h : TabOK sw m) (c : Dev nD) :
    (piM.access (entryRect c) : View sig .tc _ _ _).read (Elt F) (tab m c) (Shape.Idx.first (s := S1) (numel1_S1.symm ▸ Nat.one_pos)) = word sw c := by
  refine Eq.trans ?_ (h c)
  show m ((c : Thread nD τ).loc main_arg1) _ = _
  refine congrArg _ (funext fun a => Fin.ext ?_)
  fin_cases a; fin_cases c <;> rfl

/-! ## What a device starts with -/

/-- Block `k` before the barrier: all of its first stage but the leave to write elsewhere. -/
def Rest (c : Dev nD) (k : Fin 8) : sProp 𝕄 :=
  iprop(inPts m c k ∗ (tok 0 c k ∗ tok 1 (px sw c) k ∗ tok 2 c k ∗ tok 3 (py c) k) ∗ (pos 0 c k ∗ pos 1 c k ∗ pos 2 c k ∗ pos 3 c k) ∗ crd 1 c k ∗ crd 3 c k)

theorem chunk_start (c : Dev nD) (k : Fin 8) : iprop(Rest sw m c k ∗ outAny (px sw c) c k ∗ outAny (py c) c k) ⊢ (Chunk sw m c k 0 : sProp 𝕄) := by
  unfold Rest
  simp only [Chunk]
  iintro ⟨⟨Hin, ⟨T0, T1, T2, T3⟩, ⟨P0, P1, P2, P3⟩, C1, C3⟩, HX, HY⟩
  isplitl [Hin HX T0 T1]
  · isplitl [Hin]; · iexact Hin
    isplitl [HX]; · iexact HX
    isplitl [T0] <;> iassumption
  isplitl [P0]; · iexact P0
  isplitl [P1 C1]
  · isplitl [P1] <;> iassumption
  isplitl [HY T2 T3]
  · isplitl [HY]; · iexact HY
    isplitl [T2] <;> iassumption
  isplitl [P2]; · iexact P2
  isplitl [P3] <;> iassumption

theorem chunks_start (c : Dev nD) :
    iprop((bigSep Finset.univ fun k : Fin 8 => Rest sw m c k) ∗ barPay sw c false ∗ barPay sw c true)
      ⊢ (bigSep Finset.univ fun k : Fin 8 => Chunk sw m c k (stg 0 k) : sProp 𝕄) := by
  unfold barPay
  rw [← bigSep_sep', ← bigSep_sep']
  refine bigSep_mono fun k _ => ?_
  rw [show stg 0 k = 0 from by revert k; decide]
  exact chunk_start sw m c k

/-- What device `c` holds before its first signal, besides what it owes. -/
def Before (c : Dev nD) : sProp 𝕄 :=
  iprop((atPos ER (barCell c) 0 ∅ 0 ∗ cred (tallyAt (barCell c) () 2) ∗ dutyTok ER (barCell (px sw c)) 0 false ∗ dutyTok ER (barCell (py c)) 0 true)
    ∗ (bigSep Finset.univ fun k : Fin 8 => outAny c c k) ∗ (bigSep Finset.univ fun k : Fin 8 => outAny c (py c) k)
    ∗ bigSep Finset.univ fun k : Fin 8 => Rest sw m c k)

/-- The leave a device gives along x, and along y, is its own half and the other half of its result. -/
theorem leave_x (c : Dev nD) : (bigSep Finset.univ fun k : Fin 8 => (outAny c c k : sProp 𝕄)) = (sched sw m).payload (barCell (px sw c)) 0 false := by
  rw [payload_bar]; unfold barPay
  refine bigSep_congr fun k _ => ?_
  show _ = outAny (px sw (px sw c)) (px sw c) k
  rw [px_px, outAny_px]
theorem leave_y (c : Dev nD) : (bigSep Finset.univ fun k : Fin 8 => (outAny c (py c) k : sProp 𝕄)) = (sched sw m).payload (barCell (py c)) 0 true := by
  rw [payload_bar]; unfold barPay
  refine bigSep_congr fun k _ => ?_
  show _ = outAny (py (py c)) (py c) k
  rw [py_py]

/-- A signal to a neighbour's barrier: it pays one unit and gives the leave. -/
theorem signal_bar (c n : Dev nD) (d : Bool) (O : CellTallies nD τ sig Unit) {e : Dev nD} (he : e = n)
    {α : Type} {Q : α → sProp 𝕄} {kt : PUnit → Prog (TpuEff nD τ sig (Elt F) Λ₀ .tc) α} :
    iprop(records sw m K ∗ ow c (O + tallyAt (barCell n) () 1) ∗ dutyTok ER (barCell n) 0 d ∗ (sched sw m).payload (barCell n) 0 d)
      ⊢ iprop((ow c O -∗ wp frame (wpE (defs₀ (F := F)) 𝒱₀ (c : Thread nD τ) none) Set.univ (kt ⟨⟩) Q)
          -∗ wp frame (wpE (defs₀ (F := F)) 𝒱₀ (c : Thread nD τ) none) Set.univ (semSignalWord e barS 1#32 >>= kt) Q) := by
  subst he
  unfold ow
  simp only [semSignalWord, Prog.lift, Prog.bind_op, Prog.bind_ret]
  iintro ⟨#HR, ⟨%W, HO⟩, Ht, Hpay⟩ Hk
  ihave #HI := (records_inv sw m K (e, .inl ())) $$ HR
  ihave #Hr := (records_reached sw m K (e, .inl ())) $$ HR
  iapply (Rounds.wp_signal 𝒱₀ ER (sched sw m) (c : Thread nD τ) none (dst := (e : Thread nD τ)) (κ := K (e, .inl ()))
      (d := d) (by rw [duties_bar]; exact Finset.mem_univ _) ((amount_bar sw m e d).trans (by decide)) () O rfl) $$ [HO Ht Hpay]
  · isplitr; · iexact HI
    isplitl [HO]; · iexact HO
    isplitl [Ht]; · iexact Ht
    isplitl [Hpay]; · iexact Hpay
    iexact Hr
  iintro HO
  iapply Hk
  iexists W; iexact HO

/-- The wait for both neighbours' signals: their leave, and the barrier counter, used up, at zero. -/
theorem wait_bar (c : Dev nD) (f : Fin 8 → ℕ)
    {α : Type} {Q : α → sProp 𝕄} {kt : PUnit → Prog (TpuEff nD τ sig (Elt F) Λ₀ .tc) α} :
    iprop(records sw m K ∗ ow c (due sw c f) ∗ atPos ER (barCell c) 0 ∅ 0 ∗ cred (tallyAt (barCell c) () 2))
      ⊢ iprop(((ow c (due sw c f) ∗ semVal (barCell c) 0 ∗ barPay sw c false ∗ barPay sw c true)
            -∗ wp frame (wpE (defs₀ (F := F)) 𝒱₀ (c : Thread nD τ) none) Set.univ (kt ⟨⟩) Q)
          -∗ wp frame (wpE (defs₀ (F := F)) 𝒱₀ (c : Thread nD τ) none) Set.univ (semWaitWord barS 2#32 >>= kt) Q) := by
  unfold ow
  simp only [semWaitWord, Prog.lift, Prog.bind_op, Prog.bind_ret]
  iintro ⟨#HR, ⟨%W, HO⟩, Hp, Hc⟩ Hk
  ihave #HI := (records_inv sw m K (c, .inl ())) $$ HR
  ihave #Hl := (@records_lev F _ sw m K) $$ HR
  iapply (Rounds.wp_wait_rest_token 𝒱₀ ER (sched sw m) (c : Thread nD τ) none (κ := K (c, .inl ()))
      (wpE_semWait_eq 𝒱₀ (c : Thread nD τ) none Set.univ) (Set.mem_univ _) () (O := due sw c f) (W := W) (R := 0) (m := 0) (T := ∅)
      (by rw [expect_bar]; decide)) $$ [Hc HO Hp]
  · isplitr; · iexact HI
    isplitl [Hc]; · iexact Hc
    isplitl [HO]; · iexact HO
    isplitr; · iapply (mayWait_bar sw c f); iexact Hl
    iexact Hp
  iintro ⟨HO, Hp, -, Hpay⟩
  ihave Hpay := (Entails.of_eq (rest_bar sw m c)) $$ Hpay
  imod (Rounds.cell_close ER (sched sw m) (Set.mem_univ (K (c, .inl ()))) (fun h => h) (R := 0 + 1) (duties_later sw m (barCell c))) $$ [Hp] with Hz
  · isplitr; · iexact HI
    iexact Hp
  iapply Hk
  isplitl [HO]; · iexists _; iexact HO
  isplitl [Hz] <;> iassumption

/-- The staged table, whole, at `g`. -/
abbrev tabPts (c : Dev nD) (g : (cc0_stg0_0 : Ref sig .tc).ty.Contents (Elt F)) : sProp 𝕄 := ((c : Thread nD τ).loc cc0_stg0_0) ↦{fullShare} g

/-- The first part: the table entry, the two signals, the wait. -/
theorem part1 (hT : TabOK sw m)
    (Q : (Σ' (d0 : Dev nD) (v2 : BitVec 32) (v5 : BitVec 32) (v8 : BitVec 32) (v10 : Elt F .i32) (k0_hw1 : k0_chk1 d0 v10) (v11 : BitVec 32) (v12 : BitVec 32) (v13 : BitVec 32), BitVec 32) → sProp 𝕄) :
    iprop(records sw m K ∗ Before sw m c ∗ ow c (due₀ sw c) ∗ tabPts c (tab m c))
      ⊢ iprop((∀ v2 v5 v8 v11 v12 v13 w, (St sw m c (stg 0) ∗ semVal (barCell c) 0 ∗ tabPts c (tab m c)) -∗ Q ⟨c, v2, v5, v8, word sw c, chk sw c, v11, v12, v13, w⟩)
          -∗ wp frame (wpE (defs₀ (F := F)) 𝒱₀ (c : Thread nD τ) none) Set.univ
              (k0_part1 (F := F) piM hpi xM hx oM ho cc0_scratch0 cc0_scratch1 cc0_scratch2 cc0_scratch3) Q) := by
  simp only [k0_part1_eq_skeleton]; unfold k0_part1_skel
  simp only [smemLoad, smemLoadElt, Prog.lift, Prog.bind_op, Prog.bind_ret, Prog.pure_eq_ret, wp_deviceId]
  unfold Before
  iintro ⟨#HR, ⟨⟨Hp, Hc, Tx, Ty⟩, Lx, Ly, Hrest⟩, HO, Ht⟩ Hk
  iapply (wp_load_rect 𝒱₀ (c : Thread nD τ) none Set.univ (m := piM) (r := entryRect c) (Finset.subset_univ _)) $$ Ht; iintro Ht
  rw [read_tab sw m hT c]
  rw [wp_assume_of _ _ _ _ (chk sw c)]
  unfold due₀
  iapply (signal_bar sw m K c (px sw c) false (due₁ sw c) (Fin.ext (dev1_px sw c))) $$ [HO Tx Lx]
  · isplitr; · iexact HR
    isplitl [HO]; · iexact HO
    isplitl [Tx]; · iexact Tx
    iapply (Entails.of_eq (leave_x sw m c)); iexact Lx
  iintro HO
  unfold due₁
  iapply (signal_bar sw m K c (py c) true (due sw c fun _ => 0) (Fin.ext (k0_dev2_eq c))) $$ [HO Ty Ly]
  · isplitr; · iexact HR
    isplitl [HO]; · iexact HO
    isplitl [Ty]; · iexact Ty
    iapply (Entails.of_eq (leave_y sw m c)); iexact Ly
  iintro HO
  iapply (wait_bar sw m K c fun _ => 0) $$ [HO Hp Hc]
  · isplitr; · iexact HR
    isplitl [HO]; · iexact HO
    isplitl [Hp] <;> iassumption
  iintro ⟨HO, Hz, Hpay⟩
  rw [wp_ret]; imodintro
  iapply Hk
  isplitl [HO Hrest Hpay]
  · unfold St
    isplitl [Hrest Hpay]
    · iapply (chunks_start sw m c)
      isplitl [Hrest] <;> iassumption
    rw [show stg 0 = fun _ => 0 from by decide]
    iexact HO
  isplitl [Hz] <;> iassumption

/-- The body: from `Before c` every block passes its six steps, and the barrier counter and the table are back. -/
theorem body (hT : TabOK sw m) (Q : PUnit → sProp 𝕄) :
    iprop(records sw m K ∗ Before sw m c ∗ ow c (due₀ sw c) ∗ tabPts c (tab m c))
      ⊢ iprop(((St sw m c (stg 48) ∗ semVal (barCell c) 0 ∗ tabPts c (tab m c)) -∗ Q ⟨⟩)
          -∗ wp frame (wpE (defs₀ (F := F)) 𝒱₀ (c : Thread nD τ) none) Set.univ
              (cc0_body (F := F) piM hpi xM hx oM ho cc0_scratch0 cc0_scratch1 cc0_scratch2 cc0_scratch3) Q) := by
  simp only [cc0_body_eq_skeleton]; unfold cc0_body_skel
  simp only [wp_bind]
  iintro ⟨#HR, HB, HO, Ht⟩ Hk
  iapply (part1 sw m K c hT) $$ [HB HO Ht]
  · isplitr; · iexact HR
    isplitl [HB]; · iexact HB
    isplitl [HO] <;> iassumption
  iintro %v2 %v5 %v8 %v11 %v12 %v13 %w ⟨H, Hz, Ht⟩
  simp only [wp_bind]
  iapply (part2 sw m K c _ _ _ _ (chk sw c) _) $$ [H]
  · isplitr <;> iassumption
  iintro %u2 H
  iapply (part3 sw m K c _ _ _ _ (chk sw c) _) $$ [H]
  · isplitr <;> iassumption
  iintro %u3 H
  iapply (part4 sw m K c _ _ _ (chk sw c) _) $$ [H]
  · isplitr <;> iassumption
  iintro %u4 H
  iapply (part5 sw m K c _ _ _ _ (chk sw c) _) $$ [H]
  · isplitr <;> iassumption
  iintro %u5 H
  iapply (part6 sw m K c _ _ _ _ _ _ _) $$ [H]
  · isplitr <;> iassumption
  iintro %u6 H
  iapply (part7 sw m K c _ _ _ _ _ _) $$ [H]
  · isplitr <;> iassumption
  iintro %u7 H
  iapply (part8 sw m K c _ _ _ _ _ _) $$ [H]
  · isplitr <;> iassumption
  iintro %u8 H
  iapply (part9 sw m K c _ _ _ _ _ _ _) $$ [H]
  · isplitr <;> iassumption
  iintro %u9 H
  iapply (part10 sw m K c _ _ _ _ _ _) $$ [H]
  · isplitr <;> iassumption
  iintro %u10 H
  iapply (part11 sw m K c _ _ _ _ _ _ _) $$ [H]
  · isplitr <;> iassumption
  iintro %u11 H
  iapply (part12 sw m K c _ _ _ _ _) $$ [H]
  · isplitr <;> iassumption
  iintro %u12 H
  iapply (part13 sw m K c _ _ _ _ _ _) $$ [H]
  · isplitr <;> iassumption
  iintro %u13 H
  iapply (part14 sw m K c _ _ _ _ _ _ _) $$ [H]
  · isplitr <;> iassumption
  iintro %u14 H
  iapply (part15 sw m K c _ _ _ _ _) $$ [H]
  · isplitr <;> iassumption
  iintro %u15 H
  iapply (part16 sw m K c _) $$ [H]
  · isplitr <;> iassumption
  iintro %u16 H
  iapply (part17 sw m K c _) $$ [H]
  · isplitr <;> iassumption
  iintro %u17 H
  iapply (part18 sw m K c _) $$ [H]
  · isplitr <;> iassumption
  iintro %u18 H
  simp only [Prog.lift, Prog.bind_op, Prog.bind_ret, Prog.pure_eq_ret]
  iapply (step_ydone sw m K c 7 (stg 47) (stg 48) (by decide) (by decide) (by decide) rfl (credit_out c 7)) $$ [H]
  · isplitr <;> iassumption
  iintro H
  rw [wp_ret]; imodintro
  rw [wp_ret]; imodintro
  iapply Hk
  isplitl [H]; · iexact H
  isplitl [Hz] <;> iassumption

end Cert.KernelIdealProof

end
-- ==== Proof.KernelIdeal.Arrays.lean ====
/-
The arrays as blocks.

An operand or a result array is the sixteen row blocks of its two halves. A device starts with both arrays whole and hands
the body its own blocks; once every block has passed its six steps, the blocks make the whole arrays again: the operand as
it was, the result at `outV`.
-/
module

public import proofs.«01_k».proof.Proof.KernelIdeal.Body

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (sw : Bool) (m : (ℓ : Loc nD τ sig) → Buf (Elt F) ℓ)

/-- Four things one by one. -/
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem halves_disjoint (c : Dev nD) : Disjoint (Finset.univ.biUnion (rows c)) (Finset.univ.biUnion (rows (py c))) := by
  rw [Finset.disjoint_biUnion_left]; intro k _
  rw [Finset.disjoint_biUnion_right]; intro l _
  exact rows_disjoint_py c k l

/-- The operand of device `e` is the blocks of device `c`'s half and of the other half; -/
theorem operand_blocks (e c : Dev nD) (f : (main_arg0 : Ref sig .tc).ty.Contents (Elt F)) :
    (((e : Thread nD τ).loc main_arg0 ↦{fullShare} f : sProp 𝕄))
      = iprop((bigSep Finset.univ fun k : Fin 8 => ((e : Thread nD τ).loc main_arg0) ↦[rows c k]{fullShare} f)
        ∗ bigSep Finset.univ fun k : Fin 8 => ((e : Thread nD τ).loc main_arg0) ↦[rows (py c) k]{fullShare} f) := by
  have hd := halves_disjoint c
  have hb (d : Dev nD) := pointsTo_biUnion (Ix := Unit) (Name := ℕ) (U := UU) (Lvl := ℕ) (ℓ := (e : Thread nD τ).loc main_arg0) (q := fullShare) (f := f)
    Finset.univ (rows d) fun k _ l _ h => rows_disjoint h
  have hu := pointsTo_union (Ix := Unit) (Name := ℕ) (U := UU) (Lvl := ℕ) (ℓ := (e : Thread nD τ).loc main_arg0) (q := fullShare) (f := f) hd
  refine Eq.trans ?_ ((BI.equiv_iff.mp ⟨hu.1, hu.2⟩).trans (congrArg₂ _ (hb c) (hb (py c))))
  rw [rows_cover]
/-- and so is its result. -/
theorem result_blocks (e c : Dev nD) (f : (main_v1 : Ref sig .tc).ty.Contents (Elt F)) :
    (((e : Thread nD τ).loc main_v1 ↦{fullShare} f : sProp 𝕄))
      = iprop((bigSep Finset.univ fun k : Fin 8 => outPts e c k f) ∗ bigSep Finset.univ fun k : Fin 8 => outPts e (py c) k f) := by
  have hd := halves_disjoint c
  unfold outPts
  have hb (d : Dev nD) := pointsTo_biUnion (Ix := Unit) (Name := ℕ) (U := UU) (Lvl := ℕ) (ℓ := (e : Thread nD τ).loc main_v1) (q := fullShare) (f := f)
    Finset.univ (rows d) fun k _ l _ h => rows_disjoint h
  have hu := pointsTo_union (Ix := Unit) (Name := ℕ) (U := UU) (Lvl := ℕ) (ℓ := (e : Thread nD τ).loc main_v1) (q := fullShare) (f := f) hd
  refine Eq.trans ?_ ((BI.equiv_iff.mp ⟨hu.1, hu.2⟩).trans (congrArg₂ _ (hb c) (hb (py c))))
  rw [rows_cover]

/-- The other half of device `c`'s operand, which the body leaves alone. -/
def Aside (c : Dev nD) : sProp 𝕄 := bigSep Finset.univ fun k : Fin 8 => ((c : Thread nD τ).loc main_arg0) ↦[rows (py c) k]{fullShare} src m c

theorem operand_split (c : Dev nD) :
    (((c : Thread nD τ).loc main_arg0 ↦{fullShare} src m c : sProp 𝕄)) = iprop((bigSep Finset.univ fun k : Fin 8 => inPts m c k) ∗ Aside m c) :=
  operand_blocks c c _

/-- A whole result array is both halves' blocks at some contents. -/
theorem result_split (c : Dev nD) (f : (main_v1 : Ref sig .tc).ty.Contents (Elt F)) :
    (((c : Thread nD τ).loc main_v1 ↦{fullShare} f : sProp 𝕄))
      ⊢ iprop((bigSep Finset.univ fun k : Fin 8 => outAny c c k) ∗ bigSep Finset.univ fun k : Fin 8 => outAny c (py c) k) := by
  have h (d : Dev nD) (k : Fin 8) : (outPts c d k f : sProp 𝕄) ⊢ outAny c d k := by
    unfold outAny; iintro H; iexists f; iexact H
  rw [result_blocks c c]
  iintro ⟨H1, H2⟩
  isplitl [H1]
  · iapply (show (bigSep Finset.univ fun k : Fin 8 => (outPts c c k f : sProp 𝕄)) ⊢ bigSep Finset.univ fun k : Fin 8 => outAny c c k from bigSep_mono fun k _ => h c k); iexact H1
  · iapply (show (bigSep Finset.univ fun k : Fin 8 => (outPts c (py c) k f : sProp 𝕄)) ⊢ bigSep Finset.univ fun k : Fin 8 => outAny c (py c) k from bigSep_mono fun k _ => h (py c) k); iexact H2

/-! ## At the end -/

/-- What device `c`'s result holds at the end: in its own half the operand of `px c`, in the other half that of `px (py c)`. -/
def outV (c : Dev nD) : (main_v1 : Ref sig .tc).ty.Contents (Elt F) := fun (i : S1x512x512.Idx) =>
  if (i 1).val / 256 = (c.val / 4) % 2 then src m (px sw c) i else src m (px sw (py c)) i

theorem outPts_own (c : Dev nD) (k : Fin 8) : (outPts c c k (outV sw m c) : sProp 𝕄) = outPts c c k (src m (px sw c)) := by
  unfold outPts
  refine pointsTo_congr fun (i : S1x512x512.Idx) hi => ?_
  have hi' := mem_rows.mp hi
  have := k.isLt
  exact if_pos (by omega)
theorem outPts_other (c : Dev nD) (k : Fin 8) : (outPts c (py c) k (outV sw m c) : sProp 𝕄) = outPts c (py c) k (src m (px sw (py c))) := by
  unfold outPts
  refine pointsTo_congr fun (i : S1x512x512.Idx) hi => ?_
  have hi' := mem_rows.mp hi
  have := k.isLt
  have := y_py c
  exact if_neg (by omega)

/-- All transfer counters of device `c` at zero. -/
def Zeros (c : Dev nD) : sProp 𝕄 := bigSep Finset.univ fun ik : Fin 4 × Fin 8 => zero ik.1 c ik.2

theorem zeros_intro (c : Dev nD) :
    iprop((bigSep Finset.univ fun k : Fin 8 => zero 0 c k) ∗ (bigSep Finset.univ fun k : Fin 8 => zero 1 c k)
        ∗ (bigSep Finset.univ fun k : Fin 8 => zero 2 c k) ∗ bigSep Finset.univ fun k : Fin 8 => zero 3 c k) ⊢ (Zeros c : sProp 𝕄) := by
  unfold Zeros; rw [bigSep_univ_prod, bigSep_four]

/-- Every block after its six steps: both arrays whole, every transfer counter at zero, nothing owed. -/
theorem finish (c : Dev nD) :
    iprop(St sw m c (stg 48) ∗ Aside m c)
      ⊢ iprop(((c : Thread nD τ).loc main_arg0 ↦{fullShare} src m c) ∗ ((c : Thread nD τ).loc main_v1 ↦{fullShare} outV sw m c) ∗ Zeros c ∗ (ow c 0 : sProp 𝕄)) := by
  unfold St
  rw [due_done sw c (stg 48) (by decide), show stg 48 = fun _ => 6 from by decide, operand_split, result_blocks c c]
  simp only [Chunk, bigSep_sep', outPts_own, outPts_other]
  iintro ⟨⟨⟨⟨Hi, Z0, Z1⟩, ⟨Ho, Z2⟩, Z3, Hp⟩, HO⟩, Ha⟩
  isplitl [Hi Ha]
  · isplitl [Hi] <;> iassumption
  isplitl [Ho Hp]
  · isplitl [Ho] <;> iassumption
  isplitr [HO]
  · iapply (zeros_intro c)
    isplitl [Z0]; · iexact Z0
    isplitl [Z1]; · iexact Z1
    isplitl [Z2] <;> iassumption
  iexact HO

end Cert.KernelIdealProof

end
-- ==== Proof.KernelIdeal.Deal.lean ====
/-
What the launch deals out.

The launch makes every counter's first round: its state, a position on it, the record that it has begun, and one token for
each arrival. Here the rounds become invariants all devices know, and each token goes to the device that pays the arrival:
along x to the partner under `px`, along y to the partner under `py`, a send's to the sender. The credit a device waits
with is what its two partners owe it.
-/
module

public import proofs.«01_k».proof.Proof.KernelIdeal.Arrays

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (sw : Bool) (m : (ℓ : Loc nD τ sig) → Buf (Elt F) ℓ)

/-! ## Counters and tokens -/

/-- The kernel's own counters. -/
abbrev osem (ik : Fin 4 × Fin 8) : SemLoc sig := .dma (dsem ik.1 ik.2)
theorem ownSemFacts : Pipeline.OwnSemFacts cfg0.spec osem := by decide +kernel

theorem csem_injective : Function.Injective csem := by decide +kernel

theorem kcell_injective : Function.Injective kcell := by
  rintro ⟨c, j⟩ ⟨c', j'⟩ h
  have h1 : c = c' := congrArg (fun g : GSem nD τ sig => g.1.1) h
  have h2 : j = j' := csem_injective (congrArg Prod.snd h)
  subst h1; subst h2; rfl

def cellsSet : Finset (GSem nD τ sig) := Finset.univ.map ⟨kcell, kcell_injective⟩

/-- The arrivals at a device's counters: two at its barrier, one at each transfer counter. -/
abbrev TI : Type := Bool ⊕ (Fin 4 × Fin 8)
abbrev tokOf (ct : Dev nD × TI) : GSem nD τ sig × ℕ × Bool :=
  match ct.2 with | .inl d => (barCell ct.1, 0, d) | .inr ik => (dcell ik.1 ct.1 ik.2, 0, false)

theorem tokOf_injective : Function.Injective tokOf := by
  rintro ⟨c, j⟩ ⟨c', j'⟩ h
  rcases j with d | ik <;> rcases j' with d' | ik'
  · have h1 : c = c' := congrArg (fun x : GSem nD τ sig × ℕ × Bool => x.1.1.1) h
    have h2 : d = d' := congrArg (fun x : GSem nD τ sig × ℕ × Bool => x.2.2) h
    subst h1; subst h2; rfl
  · exact absurd (congrArg (fun x : GSem nD τ sig × ℕ × Bool => x.1.2) h) (fun h' => by cases h')
  · exact absurd (congrArg (fun x : GSem nD τ sig × ℕ × Bool => x.1.2) h) (fun h' => by cases h')
  · have h1 : (c, (Sum.inr ik : CI)) = (c', .inr ik') := kcell_injective (congrArg Prod.fst h)
    rw [Prod.mk.injEq, Sum.inr.injEq] at h1
    rw [h1.1, h1.2]

def toksSet : Finset (GSem nD τ sig × ℕ × Bool) := Finset.univ.map ⟨tokOf, tokOf_injective⟩

/-- The tokens of device `c`'s own counters. -/
def toks (c : Dev nD) : sProp 𝕄 :=
  iprop((dutyTok ER (barCell c) 0 false ∗ dutyTok ER (barCell c) 0 true)
    ∗ (bigSep Finset.univ fun k : Fin 8 => tok 0 c k) ∗ (bigSep Finset.univ fun k : Fin 8 => tok 1 c k)
    ∗ (bigSep Finset.univ fun k : Fin 8 => tok 2 c k) ∗ bigSep Finset.univ fun k : Fin 8 => tok 3 c k)

/-- The tokens of the arrivals device `c` pays. -/
def payToks (c : Dev nD) : sProp 𝕄 :=
  iprop((dutyTok ER (barCell (px sw c)) 0 false ∗ dutyTok ER (barCell (py c)) 0 true)
    ∗ (bigSep Finset.univ fun k : Fin 8 => tok 0 c k) ∗ (bigSep Finset.univ fun k : Fin 8 => tok 1 (px sw c) k)
    ∗ (bigSep Finset.univ fun k : Fin 8 => tok 2 c k) ∗ bigSep Finset.univ fun k : Fin 8 => tok 3 (py c) k)

theorem toks_eq (c : Dev nD) : (bigSep Finset.univ fun t : TI => (dutyTok ER (tokOf (c, t)).1 (tokOf (c, t)).2.1 (tokOf (c, t)).2.2 : sProp 𝕄)) = toks c := by
  unfold toks
  rw [bigSep_univ_sum, bigSep_univ_prod, bigSep_four, bigSep_univ_eq_bigSepL [false, true] (by decide) (by decide), bigSepL_cons_cons, bigSepL_singleton]
  rfl

/-- All tokens, dealt to the payers. -/
theorem toks_dealt : (bigSep Finset.univ fun c : Dev nD => (toks c : sProp 𝕄)) = bigSep Finset.univ fun c : Dev nD => payToks sw c := by
  unfold toks payToks
  simp only [bigSep_sep']
  rw [bigSep_univ_equiv (pxE sw) (fun c : Dev nD => (dutyTok ER (barCell c) 0 false : sProp 𝕄)),
    bigSep_univ_equiv pyE (fun c : Dev nD => (dutyTok ER (barCell c) 0 true : sProp 𝕄)),
    bigSep_univ_equiv (pxE sw) (fun c : Dev nD => (bigSep Finset.univ fun k : Fin 8 => tok 1 c k : sProp 𝕄)),
    bigSep_univ_equiv pyE (fun c : Dev nD => (bigSep Finset.univ fun k : Fin 8 => tok 3 c k : sProp 𝕄))]
  rfl

/-! ## The deal -/

/-- What the launch has made for device `c`. -/
def Made (c : Dev nD) : sProp 𝕄 :=
  iprop((bigSep Finset.univ fun j : CI => roundState ER (sched sw m) (kcell (c, j)) 0)
    ∗ (bigSep Finset.univ fun j : CI => atPos ER (kcell (c, j)) 0 ∅ 0)
    ∗ (bigSep Finset.univ fun j : CI => reached ER (kcell (c, j)) 0) ∗ toks c)

theorem made : BI.own (ER (initOf cellsSet toksSet)) ⊢ (|==> bigSep Finset.univ (Made sw m) : sProp 𝕄) := by
  have hc (Φ : GSem nD τ sig → sProp 𝕄) : bigSep cellsSet Φ = bigSep Finset.univ fun c : Dev nD => bigSep Finset.univ fun j : CI => Φ (kcell (c, j)) := by
    unfold cellsSet; rw [bigSep_map, bigSep_univ_prod]; rfl
  have ht : bigSep toksSet (fun x => (dutyTok ER x.1 x.2.1 x.2.2 : sProp 𝕄)) = bigSep Finset.univ fun c : Dev nD => toks c := by
    unfold toksSet; rw [bigSep_map, bigSep_univ_prod]
    exact bigSep_congr fun c _ => toks_eq c
  have h := Rounds.fund ER (sched (F := F) sw m) cellsSet toksSet
  rw [hc, hc, hc, ht] at h
  unfold Made
  simp only [bigSep_sep']
  iintro H
  imod h $$ H with ⟨H1, H2, H3, H4⟩
  imodintro
  isplitl [H1]; · iexact H1
  isplitl [H3]; · iexact H3
  isplitl [H2] <;> iassumption

theorem unscopedSems_eq (c : Dev nD) : (unscopedSems0 c : sProp 𝕄) = semVal (barCell c) 0 := by
  unfold unscopedSems0; rw [bigSep_eq_bigSepL_of_eq [SemLoc.reg barS] (by decide +kernel) (by decide)]; rfl
theorem ownSems_eq (c : Dev nD) :
    (Pipeline.ownSems0 (Ix := Unit) (Name := ℕ) (U := UU) (Lvl := ℕ) (Val := Elt F) (τ := τ) osem c : sProp 𝕄) = Zeros c := rfl

/-- A device's counters at zero, all of them. -/
theorem sems_all (c : Dev nD) :
    iprop(Zeros c ∗ semVal (barCell c) 0) ⊢ (bigSep Finset.univ fun j : CI => semVal (kcell (c, j)) 0 : sProp 𝕄) := by
  rw [bigSep_univ_sum, Finset.univ_unique, bigSep_singleton]
  unfold Zeros
  show _ ⊢ iprop(semVal (barCell c) 0 ∗ bigSep Finset.univ fun ik : Fin 4 × Fin 8 => zero ik.1 c ik.2)
  iintro ⟨H1, H2⟩
  isplitl [H2] <;> iassumption

/-- A device's counters become invariants. -/
theorem invariants (c : Dev nD) :
    iprop(Pipeline.ownSems0 (Ix := Unit) (Name := ℕ) (U := UU) (Lvl := ℕ) (Val := Elt F) (τ := τ) osem c ∗ unscopedSems0 c ∗ Made sw m c)
      ⊢ |={Set.univ}=> iprop((bigSep Finset.univ fun j : CI => iprop(∃ κ : ℕ, cellInv ER (sched sw m) κ (kcell (c, j))))
          ∗ (bigSep Finset.univ fun j : CI => atPos ER (kcell (c, j)) 0 ∅ 0)
          ∗ (bigSep Finset.univ fun j : CI => reached ER (kcell (c, j)) 0) ∗ toks c) := by
  rw [ownSems_eq, unscopedSems_eq]
  unfold Made
  iintro ⟨Hz, Hb, Hst, Hpos, Hre, Htok⟩
  ihave Hv := (sems_all (F := F) c) $$ [Hz Hb]
  · isplitl [Hz] <;> iassumption
  imod (show iprop((bigSep Finset.univ fun j : CI => semVal (kcell (c, j)) 0) ∗ bigSep Finset.univ fun j : CI => roundState ER (sched sw m) (kcell (c, j)) 0)
      ⊢ (|={Set.univ}=> bigSep Finset.univ fun j : CI => iprop(∃ κ : ℕ, cellInv ER (sched sw m) κ (kcell (c, j))) : sProp 𝕄) from by
        rw [← bigSep_sep']
        exact (bigSep_mono fun j _ => (Rounds.body_intro ER (sched sw m) (kcell (c, j))).trans inv_alloc).trans (bigSep_fupd _ _)) $$ [Hv Hst] with Hi
  · isplitl [Hv] <;> iassumption
  imodintro
  isplitl [Hi]; · iexact Hi
  isplitl [Hpos]; · iexact Hpos
  isplitl [Hre] <;> iassumption

/-- Device `c`'s share: what all know but the order of the counters, its positions, the tokens it pays. -/
def Share (c : Dev nD) : sProp 𝕄 :=
  iprop(∃ K : Dev nD × CI → ℕ, ((bigSep Finset.univ fun ck : Dev nD × CI => cellInv ER (sched sw m) (K ck) (kcell ck))
      ∗ bigSep Finset.univ fun ck : Dev nD × CI => reached ER (kcell ck) 0)
    ∗ (bigSep Finset.univ fun j : CI => atPos ER (kcell (c, j)) 0 ∅ 0) ∗ payToks sw c)

/-- What all know goes to every member of a family. -/
theorem bigSep_known {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

theorem shares :
    (bigSep Finset.univ fun c : Dev nD => iprop((bigSep Finset.univ fun j : CI => iprop(∃ κ : ℕ, cellInv ER (sched sw m) κ (kcell (c, j))))
          ∗ (bigSep Finset.univ fun j : CI => atPos ER (kcell (c, j)) 0 ∅ 0)
          ∗ (bigSep Finset.univ fun j : CI => reached ER (kcell (c, j)) 0) ∗ toks c) : sProp 𝕄)
      ⊢ bigSep Finset.univ (Share sw m) := by
  simp only [bigSep_sep']
  rw [toks_dealt sw, ← bigSep_univ_prod (fun ck : Dev nD × CI => iprop(∃ κ : ℕ, cellInv ER (sched sw m) κ (kcell ck))),
    ← bigSep_univ_prod (fun ck : Dev nD × CI => (reached ER (kcell ck) 0 : sProp 𝕄))]
  iintro ⟨HI, Hpos, #HR, Htok⟩
  ihave HK := (BI.bigSep_exists_pi Finset.univ (fun (ck : Dev nD × CI) (κ : ℕ) => (cellInv ER (sched sw m) κ (kcell ck) : sProp 𝕄))) $$ HI
  icases HK with ⟨%K, #HI⟩
  iapply (bigSep_known (R := iprop((bigSep Finset.univ fun ck : Dev nD × CI => cellInv ER (sched sw m) (K ck) (kcell ck))
        ∗ bigSep Finset.univ fun ck : Dev nD × CI => reached ER (kcell ck) 0))
      (Φ := fun c : Dev nD => iprop((bigSep Finset.univ fun j : CI => atPos ER (kcell (c, j)) 0 ∅ 0) ∗ payToks sw c)) (Ψ := Share sw m) (fun c => by
    unfold Share
    iintro ⟨HR, H⟩
    iexists K
    isplitl [HR] <;> iassumption))
  isplitr
  · isplitr <;> iassumption
  rw [bigSep_sep']
  isplitl [Hpos] <;> iassumption

/-- All counters of all devices at once. -/
theorem deal : (bigSep Finset.univ fun c => iprop(Pipeline.ownSems0 (Ix := Unit) (Name := ℕ) (U := UU) (Lvl := ℕ) (Val := Elt F) (τ := τ) osem c ∗ unscopedSems0 c ∗ Made sw m c) : sProp 𝕄)
    ⊢ |={Set.univ}=> bigSep Finset.univ (Share sw m) :=
  ((bigSep_mono fun c _ => invariants sw m c).trans (bigSep_fupd _ _)).trans (BI.fupd_mono (shares sw m))

/-! ## The credit -/

/-- What device `c` waits for from others: two arrivals at its barrier, each block along x and along y. -/
def await (c : Dev nD) : CellTallies nD τ sig Unit :=
  (∑ k : Fin 8, tallyAt (dcell 3 c k) () N) + (∑ k : Fin 8, tallyAt (dcell 1 c k) () N) + tallyAt (barCell c) () 1 + tallyAt (barCell c) () 1

theorem due_await : (∑ d, due₀ sw d) = ∑ d, await d := by
  unfold due₀ due₁ due await
  simp only [Nat.zero_lt_succ, if_true, Finset.sum_add_distrib]
  have h3 := Equiv.sum_comp pyE fun e : Dev nD => ∑ k : Fin 8, (tallyAt (dcell 3 e k) () N : CellTallies nD τ sig Unit)
  have h1 := Equiv.sum_comp (pxE sw) fun e : Dev nD => ∑ k : Fin 8, (tallyAt (dcell 1 e k) () N : CellTallies nD τ sig Unit)
  have hy := Equiv.sum_comp pyE fun e : Dev nD => (tallyAt (barCell e) () 1 : CellTallies nD τ sig Unit)
  have hx := Equiv.sum_comp (pxE sw) fun e : Dev nD => (tallyAt (barCell e) () 1 : CellTallies nD τ sig Unit)
  rw [← h3, ← h1]
  refine congrArg₂ _ (congrArg₂ _ rfl ?_) ?_
  · exact hy
  · exact hx

theorem await_own (d : Dev nD) (g : GSem nD τ sig) (h : await d g ≠ 0) : g.1 = (d.tc : Thread nD τ) := by
  by_contra hn
  refine h ?_
  have h0 (s : SemLoc sig) (n : ℕ) : (tallyAt ((d : Thread nD τ), s) () n : CellTallies nD τ sig Unit) g = 0 :=
    tallyAt_ne_cell (fun hg => hn (by rw [hg])) () n
  unfold await
  simp only [Pi.add_apply, Finset.sum_apply, h0, Finset.sum_const_zero, add_zero]

theorem credit (c : Dev nD) :
    (Pipeline.launchCred (due₀ sw) c : sProp 𝕄)
      = iprop(cred (tallyAt (barCell c) () 2) ∗ (bigSep Finset.univ fun k : Fin 8 => crd 1 c k) ∗ bigSep Finset.univ fun k : Fin 8 => crd 3 c k) := by
  have hadd (a b : CellTallies nD τ sig Unit) : (cred (a + b) : sProp 𝕄) = iprop(cred a ∗ cred b) :=
    BI.Entails.antisymm (cred_add _ _).1 (cred_add _ _).2
  rw [Pipeline.launchCred_of_sum (due₀ sw) await (due_await sw) await_own c]
  unfold await
  rw [add_assoc, tallyAt_add, add_comm, hadd, add_comm (∑ k : Fin 8, tallyAt (dcell 3 c k) () N), hadd, Pipeline.cred_finsetSum, Pipeline.cred_finsetSum]

end Cert.KernelIdealProof

end
-- ==== Proof.KernelIdeal.Run.lean ====
/-
The run.

From any memory whose tables name each device's own or the other x coordinate on all devices, every execution ends, and at
the end each device's operand and table are as they were, its result is `outV`, and every counter is at zero.
-/
module

public import proofs.«01_k».proof.Proof.KernelIdeal.Deal
public import Idealize.ShloMosaic.Lib.Pipeline.Quiescent

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (sw : Bool) (m : (ℓ : Loc nD τ sig) → Buf (Elt F) ℓ) (ρ : Dev nD → PrngReg)

/-! ## Before and after the body -/

/-- What device `c` enters the kernel with. -/
def start (c : Dev nD) : sProp 𝕄 := iprop((∃ K, records sw m K ∗ Before sw m c) ∗ Aside m c)

/-- What it leaves with: both arrays, and all its counters at zero. -/
def arraysEnd (c : Dev nD) : sProp 𝕄 :=
  iprop(((c : Thread nD τ).loc main_arg0 ↦{fullShare} src m c) ∗ ((c : Thread nD τ).loc main_v1 ↦{fullShare} outV sw m c))
def finished (c : Dev nD) : sProp 𝕄 := iprop(arraysEnd sw m c ∗ Zeros c ∗ semVal (barCell c) 0)

/-- The kernel's one window, the table: in and out the same, at what lies in the array. -/
def dats (_ : Fin 1) (c : Dev nD) : Pipeline.Dat τ (Elt F) Unit ℕ UU ℕ cfg0 c where
  A w := m ((cfg0.win w).arr.view.loc (c : Thread nD τ))
  after w _ := match w with
    | ⟨0, _⟩ => tab m c
  Φ t := match t with
    | ⟨0, _⟩ => start sw m c
    | ⟨_ + 1, _⟩ => finished sw m c
  q _ := fullShare
  owed t := match t with
    | ⟨0, _⟩ => due₀ sw c
    | ⟨_ + 1, _⟩ => 0

theorem positions_eq (c : Dev nD) : (bigSep Finset.univ fun j : CI => (atPos ER (kcell (c, j)) 0 ∅ 0 : sProp 𝕄))
    = iprop(atPos ER (barCell c) 0 ∅ 0 ∗ (bigSep Finset.univ fun k : Fin 8 => pos 0 c k) ∗ (bigSep Finset.univ fun k : Fin 8 => pos 1 c k)
      ∗ (bigSep Finset.univ fun k : Fin 8 => pos 2 c k) ∗ bigSep Finset.univ fun k : Fin 8 => pos 3 c k) := by
  rw [bigSep_univ_sum, Finset.univ_unique, bigSep_singleton, bigSep_univ_prod, bigSep_four]; rfl

/-- Positions, tokens, credit and arrays are what the body starts from. -/
theorem before_intro (c : Dev nD) :
    iprop((bigSep Finset.univ fun j : CI => atPos ER (kcell (c, j)) 0 ∅ 0) ∗ payToks sw c ∗ Pipeline.launchCred (due₀ sw) c
        ∗ ((c : Thread nD τ).loc main_arg0 ↦{fullShare} src m c) ∗ ((c : Thread nD τ).loc main_v1 ↦{fullShare} m ((c : Thread nD τ).loc main_v1)))
      ⊢ (iprop(Before sw m c ∗ Aside m c) : sProp 𝕄) := by
  rw [positions_eq, credit, operand_split]
  unfold Before payToks Rest
  simp only [bigSep_sep']
  iintro ⟨⟨PB, P0, P1, P2, P3⟩, ⟨⟨TX, TY⟩, T0, T1, T2, T3⟩, ⟨CB, C1, C3⟩, ⟨Hin, Ha⟩, Hout⟩
  ihave Ho := (result_split (F := F) c (m ((c : Thread nD τ).loc main_v1))) $$ Hout
  icases Ho with ⟨HoX, HoY⟩
  isplitr [Ha]
  · isplitl [PB CB TX TY]
    · isplitl [PB]; · iexact PB
      isplitl [CB]; · iexact CB
      isplitl [TX] <;> iassumption
    isplitl [HoX]; · iexact HoX
    isplitl [HoY]; · iexact HoY
    isplitl [Hin]; · iexact Hin
    isplitl [T0 T1 T2 T3]
    · isplitl [T0]; · iexact T0
      isplitl [T1]; · iexact T1
      isplitl [T2] <;> iassumption
    isplitl [P0 P1 P2 P3]
    · isplitl [P0]; · iexact P0
      isplitl [P1]; · iexact P1
      isplitl [P2] <;> iassumption
    isplitl [C1] <;> iassumption
  iexact Ha

theorem start_intro (c : Dev nD) :
    iprop(Pipeline.unscopedRestP Pipeline.Prefetch.none cfg0.spec c (fun b => m ((c : Thread nD τ).loc b)) ∗ levAts L lv
        ∗ Pipeline.launchCred (due₀ sw) c ∗ prngReg c (ρ c) ∗ Share sw m c)
      ⊢ |={Set.univ}=> (iprop(start sw m c ∗ emp) : sProp 𝕄) := by
  rw [Pipeline.unscopedRestP_none, unscopedRest0_eq]
  unfold Share start records
  iintro ⟨⟨Hx, Ho⟩, Hlev, Hcr, -, ⟨%K, ⟨HI, HR⟩, Hpos, Htok⟩⟩
  ihave HB := (before_intro sw m c) $$ [Hpos Htok Hcr Hx Ho]
  · isplitl [Hpos]; · iexact Hpos
    isplitl [Htok]; · iexact Htok
    isplitl [Hcr]; · iexact Hcr
    isplitl [Hx]; · iexact Hx
    iexact Ho
  icases HB with ⟨HB, Ha⟩
  imodintro
  isplitl
  · isplitr [Ha]
    · iexists K
      isplitr [HB]
      · isplitl [HI]; · iexact HI
        isplitl [HR] <;> iassumption
      iexact HB
    iexact Ha
  · iempintro

/-! ## The body's obligation -/

/-- A whole buffer owned at `X` is owned at contents equal to `X`. -/
theorem owns_whole (c : Dev nD) (b : Ref sig .tc) (X : b.ty.Contents (Elt F)) :
    (owns (c : Thread nD τ) (Memref.whole b) fullShare X : sProp 𝕄) = iprop(∃ f : b.ty.Contents (Elt F), ⌜f = X⌝ ∗ ((c : Thread nD τ).loc b ↦{fullShare} f)) := by
  unfold owns; simp only [Memref.view_whole, View.read_whole, View.set_whole]

abbrev staged (c : Dev nD) (X : (cc0_stg0_0 : Ref sig .tc).ty.Contents (Elt F)) : sProp 𝕄 :=
  iprop(∃ f : (cc0_stg0_0 : Ref sig .tc).ty.Contents (Elt F), ⌜f = X⌝ ∗ ((c : Thread nD τ).loc cc0_stg0_0 ↦{fullShare} f))

theorem before_tab (c : Dev nD) (d) : (dats sw m 0 c).before (0 : Fin 1) t0_0 d = tab m c := by
  unfold Pipeline.Dat.before; rw [if_pos (fetch0_0 t0_0)]; rfl

theorem body_run (hT : TabOK sw m) (c : Dev nD) :
    iprop(start sw m c ∗ (dats sw m 0 c).owesAt () t0_0.castSucc ∗ (∃ d, staged c ((dats sw m 0 c).before (0 : Fin 1) t0_0 d)))
      ⊢ wp frame (wpE (defs₀ (F := F)) 𝒱₀ (c : Thread nD τ) none) Set.univ
        (cc0_body (F := F) piM hpi xM hx oM ho cc0_scratch0 cc0_scratch1 cc0_scratch2 cc0_scratch3)
        (fun _ => iprop(finished sw m c ∗ (dats sw m 0 c).owesAt () t0_0.succ ∗ staged c (tab m c))) := by
  simp only [before_tab]
  unfold start Pipeline.Dat.owesAt Pipeline.owesWithin
  rw [show (dats sw m 0 c).owed t0_0.castSucc = due₀ sw c from rfl, show (dats sw m 0 c).owed t0_0.succ = 0 from rfl]
  iintro ⟨⟨⟨%K, HR, HB⟩, Ha⟩, ⟨%W, -, HO⟩, ⟨%d, %f, %hf, Ht⟩⟩
  subst hf
  iapply (body sw m K c hT) $$ [HR HB HO Ht]
  · isplitl [HR]; · iexact HR
    isplitl [HB]; · iexact HB
    isplitl [HO]; · unfold ow; iexists W; iexact HO
    iexact Ht
  iintro ⟨HS, Hz, Ht⟩
  ihave H := (finish sw m c) $$ [HS Ha]
  · isplitl [HS] <;> iassumption
  icases H with ⟨Hx, Ho, Hzs, HO⟩
  unfold ow
  icases HO with ⟨%W', HO⟩
  unfold finished arraysEnd
  isplitl [Hx Ho Hzs Hz]
  · isplitl [Hx Ho]
    · isplitl [Hx] <;> iassumption
    isplitl [Hzs] <;> iassumption
  isplitl [HO]
  · iexists W'
    isplitr; · ipureintro; exact fun _ _ => Or.inl trivial
    iexact HO
  iexists (tab m c)
  isplitr; · (ipureintro; rfl)
  iexact Ht

theorem body_obligation (hT : TabOK sw m) (c : Dev nD) : Pipeline.BodyObligation (dats (F := F) sw m 0 c) (defs₀ (F := F)) 𝒱₀ () Set.univ := fun t => by
  rw [fin_N0 t]
  rw [bigSep_W0, bigSep_W0]
  simp only [owns_whole]
  exact body_run sw m hT c

/-! ## The launch -/

theorem share_full (c : Dev nD) (w : Fin cfg0.W) : (dats (F := F) sw m 0 c).share w = fullShare := by unfold Pipeline.Dat.share; split <;> rfl

theorem waits (c : Dev nD) : (levAts L lv : sProp 𝕄) ⊢ Pipeline.cellsWaits cfgs (dats sw m) () 0 c :=
  Pipeline.cellsWaits_intro cfgs (dats sw m) () 0 c fun w s t =>
    mayWait_stage sw c _ (by fin_cases w <;> fin_cases s <;> rfl) _ (by
      rcases t with ⟨_ | _, ht⟩
      · exact Or.inl rfl
      · exact Or.inr rfl)

theorem enter (c : Dev nD) :
    iprop(start sw m c ∗ Pipeline.prefHeld Pipeline.Prefetch.none c (fun _ => fullShare.right) (fun k => k.elim0) ∗ Pipeline.scopedRest cfg0.spec c)
      ⊢ (dats sw m 0 c).Φ 0 := by
  rw [show (dats sw m 0 c).Φ 0 = start sw m c from rfl]
  iintro ⟨H, -, -⟩
  iexact H

theorem leave (c : Dev nD) :
    (dats sw m 0 c).Φ (Fin.last cfg0.N) ⊢ iprop((arraysEnd sw m c ∗ unscopedSems0 c) ∗ Pipeline.ownSems0 osem c ∗ Pipeline.scopedRest cfg0.spec c) := by
  rw [show (dats sw m 0 c).Φ (Fin.last cfg0.N) = finished sw m c from rfl, scopedRest0_eq, ownSems_eq, unscopedSems_eq]
  unfold finished
  iintro ⟨Ha, Hz, Hb⟩
  isplitl [Ha Hb]
  · isplitl [Ha] <;> iassumption
  isplitl [Hz]; · iexact Hz
  iempintro

/-- The launch's own part: the rounds of the table's transfer, and those of the exchange. -/
def u₀ : UU := (initOf (Pipeline.cells cfgs cellOf_inj) (Pipeline.launchToks cfgs cellOf_inj), initOf cellsSet toksSet)

theorem read_end (c : Dev nD) (s' : Phys nD τ sig (Elt F)) :
    iprop((arraysEnd sw m c ∗ unscopedSems0 c) ∗ emp ∗ SI s')
      ⊢ |={Set.univ}=> (iprop(⌜(s'.mem.mem ((c : Thread nD τ).loc main_arg0) = src m c ∧ s'.mem.mem ((c : Thread nD τ).loc main_v1) = outV sw m c)
          ∧ ∀ sm : SemLoc sig, sm.isScoped .tc = false → s'.mem.sem ((c.tc : Thread nD τ), sm) = 0⌝ ∗ SI s') : sProp 𝕄) := by
  unfold arraysEnd
  iintro ⟨⟨⟨Hx, Ho⟩, Hu⟩, -, HSI⟩
  icombine HSI Hx gives %hx
  icombine HSI Ho gives %ho
  ihave %hs := (tcUnscoped_read c s') $$ [Hu HSI]
  · isplitl [Hu] <;> iassumption
  imodintro
  isplitr
  · ipureintro
    exact ⟨⟨Buf.eq_of_forall_mem_univ hx, Buf.eq_of_forall_mem_univ ho⟩, hs⟩
  iexact HSI

set_option maxRecDepth 8000 in
/-- Every execution from `m` ends with each device's operand and table as they were, its result at `outV` and every counter at zero. -/
theorem run (hT : TabOK sw m) : θ_run defs (onTc (τ := τ) (main (F := F))) ⟨m, fun _ => 0, ρ⟩ (fun r =>
    (∀ c : Dev nD, r.2.mem ((c : Thread nD τ).loc main_v1) = outV sw m c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats sw m) () cellOf_inj (0 : Fin 1)
    winFacts0.to₀ ownSemFacts (Pipeline.PreFacts.none _) EP defs₀ 𝒱₀ m ρ main
    (hmain := fun _ => rfl)
    (hbody := body_obligation sw m hT) (hne := fun w => by fin_cases w <;> exact Nat.succ_pos _) (harr := arr_whole0) (hstage := stage_whole0)
    (hshare := share_full sw m) (hdistinct := winFacts0.arr_inj)
    (O₀ := due₀ sw) (howed₀ := fun _ => rfl) (howedN := fun _ => rfl)
    (L := L) (lv := lv) (hL := L_of_ne) (hwaits := waits sw m)
    (G := Made sw m) (G' := Share sw m) (u₀ := u₀)
    (hu₀ := by
      unfold u₀
      iintro Hu
      ihave H := (ownU_pair _ _) $$ Hu
      icases H with ⟨HP, HX⟩
      imod (made sw m) $$ HX with HG
      imodintro
      isplitl [HP] <;> iassumption)
    (hglob := deal sw m)
    (hA := fun _ _ => rfl) (hpf := fun _ k => k.elim0)
    (X := start sw m) (Y := fun c => iprop(arraysEnd sw m c ∗ unscopedSems0 c)) (Z := fun _ => iprop(emp))
    (hX := start_intro sw m ρ) (hin := enter sw m) (hout := leave sw m)
    (QY := fun c s => (s.mem ((c : Thread nD τ).loc main_arg0) = src m c ∧ s.mem ((c : Thread nD τ).loc main_v1) = outV sw m c)
      ∧ ∀ sm : SemLoc sig, sm.isScoped .tc = false → s.sem ((c.tc : Thread nD τ), sm) = 0)
    (hY := read_end sw m)
    (hQ := fun s h hs => ⟨fun c => ⟨(h c).2.2.1.2, (h c).2.2.1.1, ((h c).1 (0 : Fin 1)).trans ((dats (F := F) sw m 0 c).arrAt_in (0 : Fin 1) rfl _)⟩,
      sem_eq_zero hs fun c => (h c).2.2.2⟩)

end Cert.KernelIdealProof

end
-- ==== Proof.ReferenceIdeal.Run.lean ====
/-
The run of the reference program, which has one device, no kernel and no counter: `argsort` of the table, negative entries
counted from the end, and a gather of the rows. From any memory every execution ends, the result is `rowsOf` of the two
arguments, and both arguments are as they were.
-/
module

public import proofs.«01_k».proof.Proof.Gen.ReferenceIdeal
public import Idealize.ShloMosaic.Lib.StableHlo.Run
public import Idealize.ShloMosaic.Lib.Quiescent

@[expose] public section

noncomputable section

namespace Cert.ReferenceIdealProof

open Cert.ReferenceIdeal Cert.ReferenceIdeal.Gen
open Idealize.ShloMosaic Idealize.ShloMosaic.TcCoe Idealize.ShloMosaic.StableHlo Idealize.SL.Sem

variable {F : FTy → Type} [FloatOps F]

/-- `argsort` of the table: the positions in the order that sorts the entries. -/
def order (p : IVec S2 32) : IVec S2 32 := (Host.sort2 S2 0 comparator_i32_i32_d0 p (iotaInDim S2 32 0)).2

/-- The row numbers, two added to a negative one, as a column. -/
def column (o : IVec S2 32) : IVec S2x1 32 :=
  broadcastInDim S2x1 ![0] bcast_S2_S2x1_0
    (select (cmpi .slt o (broadcastInDim S2 ![] bcast_S_S2 (constantI S_ 32 0#32)))
      (addi o (broadcastInDim S2 ![] bcast_S_S2 (constantI S_ 32 2#32))) o)

/-- The result: the rows of `x` in that order. -/
def rowsOf (x : FVec F S2x512x512 .f32) (p : IVec S2 32) : FVec F S2x512x512 .f32 :=
  Host.gather gather_S2x512x512_S2x1_S2x512x512_12_0_n_n_0_1_1512512 x (column (order p))

/-- The program's operations, in order. -/
def ops : List (HloOp τ sig (Elt F)) :=
  [ TRef.nullary main_call0.v0 (iotaInDim S2 32 0),
    TRef.binary (.of main_arg1) main_call0.v0 main_call0.v1_0 (fun x y => (Host.sort2 S2 0 comparator_i32_i32_d0 x y).1),
    TRef.binary (.of main_arg1) main_call0.v0 main_call0.v1_1 (fun x y => (Host.sort2 S2 0 comparator_i32_i32_d0 x y).2),
    nullary main_c (constantI S_ 32 0#32),
    unary main_c main_v1 (broadcastInDim S2 ![] bcast_S_S2),
    binary main_v0 main_v1 main_v2 (cmpi .slt),
    nullary main_c_0 (constantI S_ 32 2#32),
    unary main_c_0 main_v3 (broadcastInDim S2 ![] bcast_S_S2),
    binary main_v0 main_v3 main_v4 addi,
    ternary main_v2 main_v4 main_v0 main_v5 select,
    unary main_v5 main_v6 (broadcastInDim S2x1 ![0] bcast_S2_S2x1_0),
    binary main_arg0 main_v6 main_v7 (fun x i => Host.gather gather_S2x512x512_S2x1_S2x512x512_12_0_n_n_0_1_1512512 x i) ]

theorem main_ops (c : Dev nD) : main (F := F) c = seq ops := by
  simp only [main, fn_argsort.body, ops, seq, bind_assoc, pure_bind]
  rfl

/-- What the operations leave in the result, -/
theorem result_after (V : Valuation τ sig (Elt F)) :
    after ops V (main_v7 : DevRef τ sig) = rowsOf (V (main_arg0 : DevRef τ sig)) (V (main_arg1 : DevRef τ sig)) := by
  unfold ops
  after_results_simp
  rfl

/-- and in the two arguments. -/
theorem rows_after (V : Valuation τ sig (Elt F)) : after ops V (main_arg0 : DevRef τ sig) = V (main_arg0 : DevRef τ sig) := by
  simp only [ops, after_cons, after_nil]; rfl
theorem table_after (V : Valuation τ sig (Elt F)) : after ops V (main_arg1 : DevRef τ sig) = V (main_arg1 : DevRef τ sig) := by
  simp only [ops, after_cons, after_nil]; rfl

theorem no_scoped_refs : (Finset.univ.filter fun b : Ref sig .tc => b.isScoped) = ∅ := by decide
theorem no_scoped_sems : (Finset.univ.filter fun s : SemLoc sig => s.isScoped .tc) = ∅ := by decide

theorem ops_tc : (ops : List (HloOp τ sig (Elt F))).Forall fun op => op.bufs ⊆ tcRefs τ sig :=
  ⟨nullary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..⟩

/-- From any memory every execution ends; the result is `rowsOf` of the arguments, the arguments are as they were, and
    every counter is at zero. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v7)
            = rowsOf (m ((c.tc : Thread nD τ).loc main_arg0)) (m ((c.tc : Thread nD τ).loc main_arg1))
          ∧ r.2.mem ((c.tc : Thread nD τ).loc main_arg0) = m ((c.tc : Thread nD τ).loc main_arg0)
          ∧ r.2.mem ((c.tc : Thread nD τ).loc main_arg1) = m ((c.tc : Thread nD τ).loc main_arg1))
        ∧ r.2.sem = fun _ => 0 :=
  (θ_run defs _ _).mono
    (fun r h => ⟨fun c => ⟨(h c main_v7).trans (result_after _), (h c main_arg0).trans (rows_after _), (h c main_arg1).trans (table_after _)⟩,
      Idealize.ShloMosaic.sem_eq_zero_of_no_sems (by decide) r.2⟩)
    (run_seq no_scoped_refs no_scoped_sems defs main (fun _ => ops) main_ops (fun _ => ops_tc) m ρ)

end Cert.ReferenceIdealProof

end
-- ==== Proof.ReferenceIdeal.Rows.lean ====
/-
The reference's value for the two tables a permutation of two entries can be: entry `i` of the result is the argument's
entry with the first coordinate taken through the table.
-/
module

public import proofs.«01_k».proof.Proof.ReferenceIdeal.Run
public import proofs.«01_k».proof.Proof.Table

@[expose] public section

noncomputable section

namespace Cert.ReferenceIdealProof

open Cert.ReferenceIdeal Cert.ReferenceIdeal.Gen
open Idealize.ShloMosaic
open Cert.Tables

variable {F : FTy → Type} [FloatOps F]

/-- Either table is its own inverse. -/
theorem order_table (sw : Bool) : order (table sw) = table sw := by
  cases sw <;> decide +kernel

/-- The column's entries are the table's: none is negative. -/
theorem column_table (sw : Bool) (j : S2x1.Idx) :
    column (table sw) j = BitVec.ofNat 32 (if sw then 1 - (j 0).val else (j 0).val) := by
  revert j
  cases sw <;> decide +kernel

/-- The index the result's index `i` reads the argument at. -/
def from_ (sw : Bool) (i : S2x512x512.Idx) : S2x512x512.Idx :=
  Function.update i (0 : Fin 3) (if sw then ⟨1 - (i 0).val, by show _ < 2; omega⟩ else i 0)

/-- An entry of either table, read as a row number and clamped to the rows there are, is itself. -/
theorem clamped (sw : Bool) : ∀ n : Fin 2, min (BitVec.toInt (BitVec.ofNat 32 (if sw then 1 - n.val else n.val))).toNat 1
    = if sw then 1 - n.val else n.val := by
  cases sw <;> decide

/-- The start of the slice for the result's index `i`: its first coordinate through the table. -/
theorem start_table (sw : Bool) (i : S2x512x512.Idx) :
    gather_S2x512x512_S2x1_S2x512x512_12_0_n_n_0_1_1512512.start i (column (table sw)) (0 : Fin 3)
      = if sw then 1 - (i 0).val else (i 0).val := by
  unfold GatherDims.start
  rw [dif_pos (by decide), column_table]
  exact clamped sw (i 0)

/-- The reference's result, entry by entry. -/
theorem rowsOf_table (sw : Bool) (x : FVec F S2x512x512 .f32) (i : S2x512x512.Idx) :
    rowsOf x (table sw) i = x (from_ sw i) := by
  unfold rowsOf
  rw [order_table]
  unfold Host.gather
  refine congrArg x (funext fun a => Fin.ext ?_)
  have hs := start_table sw i
  match a with
  | ⟨0, _⟩ =>
    show gather_S2x512x512_S2x1_S2x512x512_12_0_n_n_0_1_1512512.start i (column (table sw)) (0 : Fin 3) + 0 + 0 = _
    rw [hs]
    cases sw <;> rfl
  | ⟨1, _⟩ => exact (by show 0 + 0 + (i 1).val = (i 1).val; omega)
  | ⟨2, _⟩ => exact (by show 0 + 0 + (i 2).val = (i 2).val; omega)

end Cert.ReferenceIdealProof

end
-- ==== Proof.KernelIdeal.Value.lean ====
/-
The kernel's result is the reference's.

When every device's table is `table sw` and device `c` holds its block of an array, the table is what the run asks for, and
the result the run leaves on device `c` is its block of the reference's result.
-/
module

public import proofs.«01_k».proof.Proof.KernelIdeal.Run
public import proofs.«01_k».proof.Proof.ReferenceIdeal.Rows
public import Idealize.ShloMosaic.Lib.Layout

@[expose] public section

noncomputable section

namespace Cert.KernelIdealProof

open Cert.KernelIdeal Cert.KernelIdeal.Gen
open Idealize.ShloMosaic
open Idealize.ShloMosaic.TcCoe
open Idealize.SL.Sem
open Cert.Tables

variable {F : FTy → Type} [FloatOps F]

variable (sw : Bool) (m : (ℓ : Loc nD τ sig) → Buf (Elt F) ℓ)

/-- The tables are as the run asks. -/
theorem tabOK_of (h : ∀ c : Dev nD, (m ((c : Thread nD τ).loc main_arg1) : IVec two 32) = table sw) : TabOK sw m :=
  fun c => by rw [h c]; rfl

/-- Device `c`'s block of a whole array: the part with its own first coordinate. -/
abbrev part (c : Dev nD) (X : FVec F ⟨3, ![2, 512, 512]⟩ .f32) : FVec F S1x512x512 .f32 :=
  Layout.blockN ⟨3, ![1, 512, 512]⟩ ⟨3, ![2, 512, 512]⟩ (Layout.meshBlock [2, 2, 4] ![[0], [], []] c) X

/-- The first coordinate of the devices the result comes from: the table's entry at device `c`'s. -/
theorem from_first : ∀ (sw : Bool) (c d : Dev nD), (d = px sw c ∨ d = px sw (py c)) →
    Layout.meshLin [2, 2, 4] d.val [0] = if sw then 1 - Layout.meshLin [2, 2, 4] c.val [0] else Layout.meshLin [2, 2, 4] c.val [0] := by
  decide +kernel

/-- The block of a device the result comes from is device `c`'s block of the reference's result. -/
theorem part_from (c d : Dev nD) (hd : d = px sw c ∨ d = px sw (py c)) (X : FVec F ⟨3, ![2, 512, 512]⟩ .f32) (i : S1x512x512.Idx) :
    part d X i = part c (Cert.ReferenceIdealProof.rowsOf X (table sw)) i := by
  unfold part
  rw [Layout.blockN_apply, Layout.blockN_apply, Cert.ReferenceIdealProof.rowsOf_table]
  refine congrArg X (funext fun a => Fin.ext ?_)
  have hf := from_first sw c d hd
  have hi : (i 0).val < 1 := (i 0).isLt
  match a with
  | ⟨0, _⟩ =>
    show Layout.meshLin [2, 2, 4] d.val [0] * 1 + (i 0).val = _
    rw [hf]
    cases sw with
    | true =>
      show (1 - Layout.meshLin [2, 2, 4] c.val [0]) * 1 + (i 0).val
        = 1 - (Layout.meshLin [2, 2, 4] c.val [0] * 1 + (i 0).val)
      omega
    | false => rfl
  | ⟨1, _⟩ => rfl
  | ⟨2, _⟩ => rfl

/-- The result on device `c` is its block of the reference's result. -/
theorem outV_eq (X : FVec F ⟨3, ![2, 512, 512]⟩ .f32) (h : ∀ c : Dev nD, m ((c : Thread nD τ).loc main_arg0) = part c X) (c : Dev nD) :
    outV sw m c = part c (Cert.ReferenceIdealProof.rowsOf X (table sw)) := by
  funext i
  show (if (i 1).val / 256 = (c.val / 4) % 2 then src m (px sw c) i else src m (px sw (py c)) i) = _
  unfold src
  rw [h, h]
  split
  · exact part_from sw c _ (.inl rfl) X i
  · exact part_from sw c _ (.inr rfl) X i

end Cert.KernelIdealProof

end
-- ==== Proof.KernelIdeal.Results.lean ====
/-
The two statements about the kernel, for any float values, when every device's table is `table sw`: it runs and leaves its
arguments alone (`frame`), and its result is the reference's (`value`).
-/
module

public import proofs.«01_k».proof.Proof.KernelIdeal.Value

@[expose] public section

noncomputable section

namespace Cert.KernelIdealProof

open Cert.KernelIdeal Cert.KernelIdeal.Gen
open Idealize.ShloMosaic
open Idealize.ShloMosaic.TcCoe
open Idealize.SL.Sem
open Cert.Tables

variable {F : FTy → Type} [FloatOps F]

variable (sw : Bool) (m : (ℓ : Loc nD τ sig) → Buf (Elt F) ℓ) (ρ : Dev nD → PrngReg)

/-- Every execution ends with the arguments as they were and every counter at zero. -/
theorem frame (h : ∀ c : Dev nD, (m ((c : Thread nD τ).loc main_arg1) : IVec two 32) = table sw) :
    θ_run defs (onTc (τ := τ) (main (F := F))) ⟨m, fun _ => 0, ρ⟩ (fun r => (∀ c : Dev nD,
        r.2.mem ((c : Thread nD τ).loc main_arg0) = m ((c : Thread nD τ).loc main_arg0)
        ∧ r.2.mem ((c : Thread nD τ).loc main_arg1) = m ((c : Thread nD τ).loc main_arg1))
      ∧ r.2.sem = fun _ => 0) :=
  (θ_run defs _ _).mono (fun _ hr => ⟨fun c => (hr.1 c).2, hr.2⟩) (run sw m ρ (tabOK_of sw m h))

/-- From memories where device `c` holds its part of the reference's first argument, and the reference's second argument:
    there is one array that the reference ends with and of which every device ends with its part. -/
theorem value (m' : (ℓ : Loc Cert.ReferenceIdeal.nD Cert.ReferenceIdeal.τ Cert.ReferenceIdeal.sig) → Buf (Elt F) ℓ) (ρ' : Dev Cert.ReferenceIdeal.nD → PrngReg)
    (h : ∀ c : Dev nD, (m ((c : Thread nD τ).loc main_arg1) : IVec two 32) = table sw)
    (agree : ∀ c : Dev nD, m ((c : Thread nD τ).loc main_arg0) = part c (m' (((0 : Dev Cert.ReferenceIdeal.nD).tc : Thread _ Cert.ReferenceIdeal.τ).loc Cert.ReferenceIdeal.main_arg0))
      ∧ m ((c : Thread nD τ).loc main_arg1) = m' (((0 : Dev Cert.ReferenceIdeal.nD).tc : Thread _ Cert.ReferenceIdeal.τ).loc Cert.ReferenceIdeal.main_arg1)) :
    ∃ v : Buf (Elt F) (((0 : Dev Cert.ReferenceIdeal.nD).tc : Thread Cert.ReferenceIdeal.nD Cert.ReferenceIdeal.τ).loc Cert.ReferenceIdeal.main_v7),
      θ_run defs (onTc (τ := τ) (main (F := F))) ⟨m, fun _ => 0, ρ⟩ (fun r => ∀ c : Dev nD,
        r.2.mem ((c : Thread nD τ).loc main_v1) = part c v
        ∧ r.2.mem ((c : Thread nD τ).loc main_arg0) = m ((c : Thread nD τ).loc main_arg0)
        ∧ r.2.mem ((c : Thread nD τ).loc main_arg1) = m ((c : Thread nD τ).loc main_arg1))
      ∧ θ_run Cert.ReferenceIdeal.defs (onTc (τ := Cert.ReferenceIdeal.τ) (Cert.ReferenceIdeal.main (F := F))) ⟨m', fun _ => 0, ρ'⟩ (fun r =>
        r.2.mem (((0 : Dev Cert.ReferenceIdeal.nD).tc : Thread _ Cert.ReferenceIdeal.τ).loc Cert.ReferenceIdeal.main_v7) = v
        ∧ r.2.mem (((0 : Dev Cert.ReferenceIdeal.nD).tc : Thread _ Cert.ReferenceIdeal.τ).loc Cert.ReferenceIdeal.main_arg0)
            = m' (((0 : Dev Cert.ReferenceIdeal.nD).tc : Thread _ Cert.ReferenceIdeal.τ).loc Cert.ReferenceIdeal.main_arg0)
        ∧ r.2.mem (((0 : Dev Cert.ReferenceIdeal.nD).tc : Thread _ Cert.ReferenceIdeal.τ).loc Cert.ReferenceIdeal.main_arg1)
            = m' (((0 : Dev Cert.ReferenceIdeal.nD).tc : Thread _ Cert.ReferenceIdeal.τ).loc Cert.ReferenceIdeal.main_arg1)) := by
  refine ⟨Cert.ReferenceIdealProof.rowsOf (m' (((0 : Dev Cert.ReferenceIdeal.nD).tc : Thread _ Cert.ReferenceIdeal.τ).loc Cert.ReferenceIdeal.main_arg0)) (table sw), ?_, ?_⟩
  · refine (θ_run defs _ _).mono (fun _ hr c => ⟨(hr.1 c).1.trans ?_, (hr.1 c).2⟩) (run sw m ρ (tabOK_of sw m h))
    exact outV_eq sw m _ (fun d => (agree d).1) c
  · refine (θ_run Cert.ReferenceIdeal.defs _ _).mono (fun _ hr => ⟨(hr.1 0).1.trans ?_, (hr.1 0).2⟩) (Cert.ReferenceIdealProof.run m' ρ')
    rw [← (agree 0).2]
    exact congrArg _ (h 0)

end Cert.KernelIdealProof

end
-- ==== Proof.lean ====
/-
The certificate's claim, put together.

The kernel is proved once for any float values (Proof/Kernel/) and once more, in the same words, for its printing over exact
numbers (Proof/KernelIdeal/); the reference likewise. Each precondition says which of the two possible tables every device
holds (Proof/Table.lean).

  * The frames: every execution ends, the arguments are as they were, every counter is at zero.
  * `preserves`: the two printings of the kernel are one program.
  * `algebraic` and `bitexact`: the result on device `c` is its part of the reference's result.
-/
module

public import proofs.«01_k».proof.Defs
public import proofs.«01_k».proof.Proof.Gen.Pre_pi_swaps_ReferenceIdeal
public import proofs.«01_k».proof.Proof.Gen.Pre_pi_keeps_ReferenceIdeal
public import proofs.«01_k».proof.Proof.Kernel.Results
public import proofs.«01_k».proof.Proof.KernelIdeal.Results

@[expose] public section

noncomputable section

namespace Cert.Proof

open Idealize.ShloMosaic Idealize.SL.Sem
open Cert.Tables

/-- The reference leaves its arguments alone, over exact numbers -/
theorem reference_exact (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)) ∧ r.2.sem = fun _ => 0) :=
  (θ_run Cert.ReferenceIdeal.defs _ _).mono (fun _ h => ⟨fun c => (h.1 c).2, h.2⟩) (Cert.ReferenceIdealProof.run (F := Ideal) m g)

/-- and bit for bit. -/
theorem reference_bits (m : (ℓ : Loc Cert.Reference.nD Cert.Reference.τ Cert.Reference.sig) → Buf (Elt Bits) ℓ)
    (g : Dev Cert.Reference.nD → PrngReg) :
    θ_run (Cert.Reference.defs (F := Bits)) (onTc (τ := Cert.Reference.τ) (Cert.Reference.main (F := Bits))) ⟨m, fun _ => 0, g⟩
      (fun r => (∀ c : Dev Cert.Reference.nD,
        r.2.mem ((c.tc : Thread Cert.Reference.nD Cert.Reference.τ).loc Cert.Reference.main_arg0)
            = m ((c.tc : Thread Cert.Reference.nD Cert.Reference.τ).loc Cert.Reference.main_arg0)
        ∧ r.2.mem ((c.tc : Thread Cert.Reference.nD Cert.Reference.τ).loc Cert.Reference.main_arg1)
            = m ((c.tc : Thread Cert.Reference.nD Cert.Reference.τ).loc Cert.Reference.main_arg1)) ∧ r.2.sem = fun _ => 0) :=
  (θ_run Cert.Reference.defs _ _).mono (fun _ h => ⟨fun c => (h.1 c).2, h.2⟩) (Cert.ReferenceProof.run (F := Bits) m g)

/-- The kernel's frame under each precondition, bit for bit -/
theorem frame_swaps : Cert.quiescent_Kernel :=
  fun m g h => Cert.KernelProof.frame (F := Bits) true m g fun c => of_swaps _ _ (h c)
theorem frame_keeps : Cert.quiescent_Kernel_pre_pi_keeps_Kernel :=
  fun m g h => Cert.KernelProof.frame (F := Bits) false m g fun c => of_keeps _ _ (h c)

/-- and over exact numbers. -/
theorem frame_swaps_exact : Cert.quiescent_KernelIdeal :=
  fun m g h => Cert.KernelIdealProof.frame (F := Ideal) true m g fun c => of_swaps _ _ (h c)
theorem frame_keeps_exact : Cert.quiescent_KernelIdeal_pre_pi_keeps_Kernel :=
  fun m g h => Cert.KernelIdealProof.frame (F := Ideal) false m g fun c => of_keeps _ _ (h c)

/-- Over exact numbers the kernel computes the reference, under each precondition; -/
theorem algebraic_swaps : Cert.algebraic_KernelIdeal_ReferenceIdeal :=
  fun m g m' g' h agree => Cert.KernelIdealProof.value (F := Ideal) true m g m' g' (fun c => of_swaps _ _ (h c)) agree
theorem algebraic_keeps : Cert.algebraic_KernelIdeal_ReferenceIdeal_pre_pi_keeps_Kernel :=
  fun m g m' g' h agree => Cert.KernelIdealProof.value (F := Ideal) false m g m' g' (fun c => of_keeps _ _ (h c)) agree

/-- and so it does bit for bit. -/
theorem bitexact_swaps : Cert.bitexact_Kernel_Reference :=
  fun m g m' g' h agree => Cert.KernelProof.value (F := Bits) true m g m' g' (fun c => of_swaps _ _ (h c)) agree
theorem bitexact_keeps : Cert.bitexact_Kernel_Reference_pre_pi_keeps_Kernel :=
  fun m g m' g' h agree => Cert.KernelProof.value (F := Bits) false m g m' g' (fun c => of_keeps _ _ (h c)) agree

/-- The claim. -/
theorem claim : Cert.Claim :=
  ⟨Cert.Kernel.Gen.facts, Cert.KernelIdeal.Gen.facts, Cert.ReferenceIdeal.Gen.facts, Cert.Reference.Gen.facts,
    Cert.Pre_pi_swaps_Kernel.Gen.facts, Cert.Pre_pi_keeps_Kernel.Gen.facts,
    Cert.Pre_pi_swaps_ReferenceIdeal.Gen.facts, Cert.Pre_pi_keeps_ReferenceIdeal.Gen.facts,
    frame_swaps, frame_keeps, frame_swaps_exact, frame_keeps_exact,
    fun m g _ => reference_exact m g, fun m g _ => reference_exact m g, fun m g _ => reference_exact m g,
    fun m g _ => reference_bits m g, fun m g _ => reference_bits m g,
    trivial, algebraic_swaps, algebraic_keeps, bitexact_swaps, bitexact_keeps⟩

end Cert.Proof

end
